-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dropless_KernelIdeal [hPre_dropless_KernelIdeal : Cert.Pre_dropless_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_dropless_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_dropless_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dropless_ReferenceIdeal [hPre_dropless_ReferenceIdeal : Cert.Pre_dropless_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dropless_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_dropless_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_dropless_KernelIdeal [hKernelIdeal : Cert.KernelIdeal.Facts] [hPre_dropless_KernelIdeal : Cert.Pre_dropless_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dropless_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dropless_ReferenceIdeal [hReferenceIdeal : Cert.ReferenceIdeal.Facts] [hPre_dropless_ReferenceIdeal : Cert.Pre_dropless_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dropless_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_dropless_KernelIdeal [hKernelIdeal : Cert.KernelIdeal.Facts] [hReferenceIdeal : Cert.ReferenceIdeal.Facts] [hPre_dropless_KernelIdeal : Cert.Pre_dropless_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dropless_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![32768, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v64) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_dropless_KernelIdeal : Cert.Pre_dropless_KernelIdeal.Facts) (hPre_dropless_ReferenceIdeal : Cert.Pre_dropless_ReferenceIdeal.Facts),
    quiescent_Kernel (hKernel := hKernel)
    ∧ quiescent_KernelIdeal (hKernelIdeal := hKernelIdeal)
    ∧ quiescent_KernelIdeal_pre_dropless_KernelIdeal (hKernelIdeal := hKernelIdeal) (hPre_dropless_KernelIdeal := hPre_dropless_KernelIdeal)
    ∧ quiescent_ReferenceIdeal (hReferenceIdeal := hReferenceIdeal)
    ∧ quiescent_ReferenceIdeal_pre_dropless_ReferenceIdeal (hReferenceIdeal := hReferenceIdeal) (hPre_dropless_ReferenceIdeal := hPre_dropless_ReferenceIdeal)
    ∧ preserves_Kernel_KernelIdeal
    ∧ algebraic_KernelIdeal_ReferenceIdeal_pre_dropless_KernelIdeal (hKernelIdeal := hKernelIdeal) (hReferenceIdeal := hReferenceIdeal) (hPre_dropless_KernelIdeal := hPre_dropless_KernelIdeal)
-- ==== Pre_dropless_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S1024x2x1 : Shape := ⟨3, ![1024, 2, 1]⟩
abbrev S128 : Shape := ⟨1, ![128]⟩
abbrev S1x1x128 : Shape := ⟨3, ![1, 1, 128]⟩
abbrev S1024x2x128 : Shape := ⟨3, ![1024, 2, 128]⟩
abbrev S1024x1 : Shape := ⟨2, ![1024, 1]⟩
abbrev S1024 : Shape := ⟨1, ![1024]⟩
abbrev S_ : Shape := ⟨0, ![]⟩

class Facts : Prop where
  bcast_S1024x2_S1024x2x1_0_1 : S1024x2.BroadcastsInDim S1024x2x1 (![0, 1] : Fin 2 → Fin S1024x2x1.rank)
  bcast_S128_S1x1x128_2 : S128.BroadcastsInDim S1x1x128 (![2] : Fin 1 → Fin S1x1x128.rank)
  bcast_S1024x2x1_S1024x2x128_0_1_2 : S1024x2x1.BroadcastsInDim S1024x2x128 (![0, 1, 2] : Fin 3 → Fin S1024x2x128.rank)
  bcast_S1x1x128_S1024x2x128_0_1_2 : S1x1x128.BroadcastsInDim S1024x2x128 (![0, 1, 2] : Fin 3 → Fin S1024x2x128.rank)
  natLt_1_32 : 1 < 32
  slices_S1024x2_S1024x1_0_0 : S1024x2.Slices ![0, 0] S1024x1
  shapeCasts_S1024x1_S1024 : S1024x1.ShapeCasts S1024
  slices_S1024x2_S1024x1_0_1 : S1024x2.Slices ![0, 1] S1024x1
  reducesTo_S1024_S_d0 : S1024.ReducesTo [0] S_
  h_S_ : 0 < S_.numel
  reducesTo_S1024x2x128_S128_d0_1 : S1024x2x128.ReducesTo [0, 1] S128
  bcast_S_S128 : S_.BroadcastsInDim S128 (![] : Fin 0 → Fin S128.rank)
  reducesTo_S128_S_d0 : S128.ReducesTo [0] S_

variable [Facts]

def fn {F : FTy → Type} [FloatOps F] (main_arg0 : FVec F S1024x256 .f32) (main_arg1 : FVec F S256x128 .f32) (main_arg2 : IVec S1024x2 32) (main_arg3 : FVec F S4x256x512 .f32) : IVec S_ 1 × IVec S_ 1 :=
  let main_v0 : IVec S1024x2x1 32 := broadcastInDim S1024x2x1 ![0, 1] bcast_S1024x2_S1024x2x1_0_1 main_arg2
  let main_v1 : IVec S128 32 := iotaInDim S128 32 0
  let main_v2 : IVec S1x1x128 32 := broadcastInDim S1x1x128 ![2] bcast_S128_S1x1x128_2 main_v1
  let main_v3 : IVec S1024x2x128 32 := broadcastInDim S1024x2x128 ![0, 1, 2] bcast_S1024x2x1_S1024x2x128_0_1_2 main_v0
  let main_v4 : IVec S1024x2x128 32 := broadcastInDim S1024x2x128 ![0, 1, 2] bcast_S1x1x128_S1024x2x128_0_1_2 main_v2
  let main_v5 : IVec S1024x2x128 1 := cmpi .eq main_v3 main_v4
  let main_v6 : IVec S1024x2x128 32 := (extui 32 · natLt_1_32) main_v5
  let main_v7 : IVec S1024x1 32 := (extractStridedSlice S1024x1 ![0, 0] · slices_S1024x2_S1024x1_0_0) main_arg2
  let main_v8 : IVec S1024 32 := shapeCast S1024 main_v7 shapeCasts_S1024x1_S1024
  let main_v9 : IVec S1024x1 32 := (extractStridedSlice S1024x1 ![0, 1] · slices_S1024x2_S1024x1_0_1) main_arg2
  let main_v10 : IVec S1024 32 := shapeCast S1024 main_v9 shapeCasts_S1024x1_S1024
  let main_v11 : IVec S1024 1 := cmpi .ne main_v8 main_v10
  let main_c : IVec S_ 1 := constantI S_ 1 1#1
  let main_v12 : IVec S_ 1 := (fun x v => Host.reduce IntOp.andi x v reducesTo_S1024_S_d0 h_S_) main_v11 main_c
  let main_c_0 : IVec S_ 32 := constantI S_ 32 0#32
  let main_v13 : IVec S128 32 := (fun x v => Host.reduce IntOp.addi x v reducesTo_S1024x2x128_S128_d0_1 h_S_) main_v6 main_c_0
  let main_c_1 : IVec S_ 32 := constantI S_ 32 48#32
  let main_v14 : IVec S128 32 := broadcastInDim S128 ![] bcast_S_S128 main_c_1
  let main_v15 : IVec S128 1 := cmpi .sle main_v13 main_v14
  let main_c_2 : IVec S_ 1 := constantI S_ 1 1#1
  let main_v16 : IVec S_ 1 := (fun x v => Host.reduce IntOp.andi x v reducesTo_S128_S_d0 h_S_) main_v15 main_c_2
  (main_v12, main_v16)
-- ==== Pre_dropless_ReferenceIdeal.lean ====
abbrev S32768x256 : Shape := ⟨2, ![32768, 256]⟩
abbrev S256x128 : Shape := ⟨2, ![256, 128]⟩
abbrev S32768x2 : Shape := ⟨2, ![32768, 2]⟩
abbrev S128x256x512 : Shape := ⟨3, ![128, 256, 512]⟩
abbrev S32768x2x1 : Shape := ⟨3, ![32768, 2, 1]⟩
abbrev S128 : Shape := ⟨1, ![128]⟩
abbrev S1x1x128 : Shape := ⟨3, ![1, 1, 128]⟩
abbrev S32768x2x128 : Shape := ⟨3, ![32768, 2, 128]⟩
abbrev S32768x1 : Shape := ⟨2, ![32768, 1]⟩
abbrev S32768 : Shape := ⟨1, ![32768]⟩
abbrev S_ : Shape := ⟨0, ![]⟩

class Facts : Prop where
  bcast_S32768x2_S32768x2x1_0_1 : S32768x2.BroadcastsInDim S32768x2x1 (![0, 1] : Fin 2 → Fin S32768x2x1.rank)
  bcast_S128_S1x1x128_2 : S128.BroadcastsInDim S1x1x128 (![2] : Fin 1 → Fin S1x1x128.rank)
  bcast_S32768x2x1_S32768x2x128_0_1_2 : S32768x2x1.BroadcastsInDim S32768x2x128 (![0, 1, 2] : Fin 3 → Fin S32768x2x128.rank)
  bcast_S1x1x128_S32768x2x128_0_1_2 : S1x1x128.BroadcastsInDim S32768x2x128 (![0, 1, 2] : Fin 3 → Fin S32768x2x128.rank)
  natLt_1_32 : 1 < 32
  slices_S32768x2_S32768x1_0_0 : S32768x2.Slices ![0, 0] S32768x1
  shapeCasts_S32768x1_S32768 : S32768x1.ShapeCasts S32768
  slices_S32768x2_S32768x1_0_1 : S32768x2.Slices ![0, 1] S32768x1
  reducesTo_S32768_S_d0 : S32768.ReducesTo [0] S_
  h_S_ : 0 < S_.numel
  reducesTo_S32768x2x128_S128_d0_1 : S32768x2x128.ReducesTo [0, 1] S128
  bcast_S_S128 : S_.BroadcastsInDim S128 (![] : Fin 0 → Fin S128.rank)
  reducesTo_S128_S_d0 : S128.ReducesTo [0] S_

variable [Facts]

def fn {F : FTy → Type} [FloatOps F] (main_arg0 : FVec F S32768x256 .f32) (main_arg1 : FVec F S256x128 .f32) (main_arg2 : IVec S32768x2 32) (main_arg3 : FVec F S128x256x512 .f32) : IVec S_ 1 × IVec S_ 1 :=
  let main_v0 : IVec S32768x2x1 32 := broadcastInDim S32768x2x1 ![0, 1] bcast_S32768x2_S32768x2x1_0_1 main_arg2
  let main_v1 : IVec S128 32 := iotaInDim S128 32 0
  let main_v2 : IVec S1x1x128 32 := broadcastInDim S1x1x128 ![2] bcast_S128_S1x1x128_2 main_v1
  let main_v3 : IVec S32768x2x128 32 := broadcastInDim S32768x2x128 ![0, 1, 2] bcast_S32768x2x1_S32768x2x128_0_1_2 main_v0
  let main_v4 : IVec S32768x2x128 32 := broadcastInDim S32768x2x128 ![0, 1, 2] bcast_S1x1x128_S32768x2x128_0_1_2 main_v2
  let main_v5 : IVec S32768x2x128 1 := cmpi .eq main_v3 main_v4
  let main_v6 : IVec S32768x2x128 32 := (extui 32 · natLt_1_32) main_v5
  let main_v7 : IVec S32768x1 32 := (extractStridedSlice S32768x1 ![0, 0] · slices_S32768x2_S32768x1_0_0) main_arg2
  let main_v8 : IVec S32768 32 := shapeCast S32768 main_v7 shapeCasts_S32768x1_S32768
  let main_v9 : IVec S32768x1 32 := (extractStridedSlice S32768x1 ![0, 1] · slices_S32768x2_S32768x1_0_1) main_arg2
  let main_v10 : IVec S32768 32 := shapeCast S32768 main_v9 shapeCasts_S32768x1_S32768
  let main_v11 : IVec S32768 1 := cmpi .ne main_v8 main_v10
  let main_c : IVec S_ 1 := constantI S_ 1 1#1
  let main_v12 : IVec S_ 1 := (fun x v => Host.reduce IntOp.andi x v reducesTo_S32768_S_d0 h_S_) main_v11 main_c
  let main_c_0 : IVec S_ 32 := constantI S_ 32 0#32
  let main_v13 : IVec S128 32 := (fun x v => Host.reduce IntOp.addi x v reducesTo_S32768x2x128_S128_d0_1 h_S_) main_v6 main_c_0
  let main_c_1 : IVec S_ 32 := constantI S_ 32 48#32
  let main_v14 : IVec S128 32 := broadcastInDim S128 ![] bcast_S_S128 main_c_1
  let main_v15 : IVec S128 1 := cmpi .sle main_v13 main_v14
  let main_c_2 : IVec S_ 1 := constantI S_ 1 1#1
  let main_v16 : IVec S_ 1 := (fun x v => Host.reduce IntOp.andi x v reducesTo_S128_S_d0 h_S_) main_v15 main_c_2
  (main_v12, main_v16)
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S1024x512 : Shape := ⟨2, ![1024, 512]⟩
abbrev S32x192x256 : Shape := ⟨3, ![32, 192, 256]⟩
abbrev S32x192x512 : Shape := ⟨3, ![32, 192, 512]⟩
abbrev S32 : Shape := ⟨1, ![32]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩
abbrev S128x1 : Shape := ⟨2, ![128, 1]⟩
abbrev S128x1023 : Shape := ⟨2, ![128, 1023]⟩
abbrev S128x2 : Shape := ⟨2, ![128, 2]⟩
abbrev S128x1022 : Shape := ⟨2, ![128, 1022]⟩
abbrev S128x4 : Shape := ⟨2, ![128, 4]⟩
abbrev S128x1020 : Shape := ⟨2, ![128, 1020]⟩
abbrev S128x8 : Shape := ⟨2, ![128, 8]⟩
abbrev S128x1016 : Shape := ⟨2, ![128, 1016]⟩
abbrev S128x16 : Shape := ⟨2, ![128, 16]⟩
abbrev S128x1008 : Shape := ⟨2, ![128, 1008]⟩
abbrev S128x32 : Shape := ⟨2, ![128, 32]⟩
abbrev S128x992 : Shape := ⟨2, ![128, 992]⟩
abbrev S128x64 : Shape := ⟨2, ![128, 64]⟩
abbrev S128x960 : Shape := ⟨2, ![128, 960]⟩
abbrev S128x128 : Shape := ⟨2, ![128, 128]⟩
abbrev S128x896 : Shape := ⟨2, ![128, 896]⟩
abbrev S128x256 : Shape := ⟨2, ![128, 256]⟩
abbrev S128x768 : Shape := ⟨2, ![128, 768]⟩
abbrev S128x512 : Shape := ⟨2, ![128, 512]⟩
abbrev S128x48x1024 : Shape := ⟨3, ![128, 48, 1024]⟩
abbrev S128x1x1024 : Shape := ⟨3, ![128, 1, 1024]⟩
abbrev S6144x1024 : Shape := ⟨2, ![6144, 1024]⟩
abbrev S1x1x1024 : Shape := ⟨3, ![1, 1, 1024]⟩
abbrev S6144x256 : Shape := ⟨2, ![6144, 256]⟩
abbrev S1 : Shape := ⟨1, ![1]⟩
abbrev S1x192x256 : Shape := ⟨3, ![1, 192, 256]⟩
abbrev S192x256 : Shape := ⟨2, ![192, 256]⟩
abbrev S32x48x256 : Shape := ⟨3, ![32, 48, 256]⟩
abbrev S1536x256 : Shape := ⟨2, ![1536, 256]⟩
abbrev S1x256x512 : Shape := ⟨3, ![1, 256, 512]⟩
abbrev S256x512 : Shape := ⟨2, ![256, 512]⟩
abbrev S1536x512 : Shape := ⟨2, ![1536, 512]⟩
abbrev S32x48x512 : Shape := ⟨3, ![32, 48, 512]⟩
abbrev S1x192x512 : Shape := ⟨3, ![1, 192, 512]⟩
abbrev S192x512 : Shape := ⟨2, ![192, 512]⟩
abbrev S6144x512 : Shape := ⟨2, ![6144, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x128, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S32x192x256, .bf16⟩
  | .local _ .vmem, ⟨6, _⟩ => ⟨S32x192x256, .bf16⟩
  | .local _ .vmem, ⟨7, _⟩ => ⟨S32x192x512, .bf16⟩
  | .local _ .vmem, ⟨8, _⟩ => ⟨S32x192x512, .bf16⟩
  | _, _ => ⟨S1024x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg13 : BitVec 32 := Scf.iv c1_i32_0 c1_i32_1 k0_t1
  let v190 : BitVec 32 := Scalar.addi v2 arg13
  let c32_i32_82 : BitVec 32 := 32#32
  let v191 : BitVec 32 := Scalar.remsi v190 c32_i32_82
  let c1_i32_84 : BitVec 32 := 1#32
  let v192 : BitVec 32 := Scalar.muli v191 c1_i32_84
  let v193 : BitVec 32 := Scalar.addi c0_i32_85 v192
  v193.toNat
@[reducible] def k0_t2_loop : Scf.Loop 32 :=
  let c1_i32_29 : BitVec 32 := 1#32
  let c31_i32_30 : BitVec 32 := 31#32
  let v125 : BitVec 32 := Scalar.addi c1_i32_29 c31_i32_30
  let c1_i32_31 : BitVec 32 := 1#32
  ⟨c1_i32_29, v125, c1_i32_31⟩
def k0_off1 (k0_t2 : Fin k0_t2_loop.trips) : Fin 1 → Nat :=
  let c1_i32_29 : BitVec 32 := 1#32
  let c1_i32_31 : BitVec 32 := 1#32
  let arg13 : BitVec 32 := Scf.iv c1_i32_29 c1_i32_31 k0_t2
  ![arg13.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_85 : BitVec 32 := 0#32
  let c0_i32_86 : BitVec 32 := 0#32
  ![v2.toNat, 0, 0]
def k0_off3 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let c1_i32_31 : BitVec 32 := 1#32
  let arg13 : BitVec 32 := Scf.iv c1_i32_29 c1_i32_31 k0_t2
  let v190 : BitVec 32 := Scalar.addi v2 arg13
  let c32_i32_82 : BitVec 32 := 32#32
  let v191 : BitVec 32 := Scalar.remsi v190 c32_i32_82
  let c0_i32_87 : BitVec 32 := 0#32
  let c0_i32_88 : BitVec 32 := 0#32
  ![v191.toNat, 0, 0]
def k0_dev2 (d0 : Dev nD) (k0_t2 : Fin k0_t2_loop.trips) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let c1_i32_31 : BitVec 32 := 1#32
  let arg13 : BitVec 32 := Scf.iv c1_i32_29 c1_i32_31 k0_t2
  let v190 : BitVec 32 := Scalar.addi v2 arg13
  let c32_i32_82 : BitVec 32 := 32#32
  let v191 : BitVec 32 := Scalar.remsi v190 c32_i32_82
  let c1_i32_83 : BitVec 32 := 1#32
  let v192 : BitVec 32 := Scalar.muli v191 c1_i32_83
  let v193 : BitVec 32 := Scalar.addi c0_i32_84 v192
  v193.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v126 : Index := Scalar.indexCast v2
  let c0_33 : Index := 0#32
  let c0_34 : Index := 0#32
  ![v126.toNat, 0, 0]
@[reducible] def k0_t3_loop : Scf.Loop 32 :=
  let c1_i32_37 : BitVec 32 := 1#32
  let c31_i32_38 : BitVec 32 := 31#32
  let v132 : BitVec 32 := Scalar.addi c1_i32_37 c31_i32_38
  let c1_i32_39 : BitVec 32 := 1#32
  ⟨c1_i32_37, v132, c1_i32_39⟩
def k0_off5 (k0_t3 : Fin k0_t3_loop.trips) : Fin 1 → Nat :=
  let c1_i32_37 : BitVec 32 := 1#32
  let c1_i32_39 : BitVec 32 := 1#32
  let arg13 : BitVec 32 := Scf.iv c1_i32_37 c1_i32_39 k0_t3
  ![arg13.toNat]
@[reducible] def k0_t4_loop : Scf.Loop 32 :=
  let c1_i32_60 : BitVec 32 := 1#32
  let c31_i32_61 : BitVec 32 := 31#32
  let v177 : BitVec 32 := Scalar.addi c1_i32_60 c31_i32_61
  let c1_i32_62 : BitVec 32 := 1#32
  ⟨c1_i32_60, v177, c1_i32_62⟩
def k0_off6 (k0_t4 : Fin k0_t4_loop.trips) : Fin 1 → Nat :=
  let c1_i32_60 : BitVec 32 := 1#32
  let c1_i32_62 : BitVec 32 := 1#32
  let arg13 : BitVec 32 := Scf.iv c1_i32_60 c1_i32_62 k0_t4
  ![arg13.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_85 : BitVec 32 := 0#32
  let c0_i32_86 : BitVec 32 := 0#32
  ![v2.toNat, 0, 0]
def k0_off8 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let c1_i32_62 : BitVec 32 := 1#32
  let arg13 : BitVec 32 := Scf.iv c1_i32_60 c1_i32_62 k0_t4
  let v190 : BitVec 32 := Scalar.addi v2 arg13
  let c32_i32_82 : BitVec 32 := 32#32
  let v191 : BitVec 32 := Scalar.remsi v190 c32_i32_82
  let c0_i32_87 : BitVec 32 := 0#32
  let c0_i32_88 : BitVec 32 := 0#32
  ![v191.toNat, 0, 0]
def k0_dev3 (d0 : Dev nD) (k0_t4 : Fin k0_t4_loop.trips) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let c1_i32_62 : BitVec 32 := 1#32
  let arg13 : BitVec 32 := Scf.iv c1_i32_60 c1_i32_62 k0_t4
  let v190 : BitVec 32 := Scalar.addi v2 arg13
  let c32_i32_82 : BitVec 32 := 32#32
  let v191 : BitVec 32 := Scalar.remsi v190 c32_i32_82
  let c1_i32_83 : BitVec 32 := 1#32
  let v192 : BitVec 32 := Scalar.muli v191 c1_i32_83
  let v193 : BitVec 32 := Scalar.addi c0_i32_84 v192
  v193.toNat
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v178 : Index := Scalar.indexCast v2
  let c0_64 : Index := 0#32
  let c0_65 : Index := 0#32
  ![v178.toNat, 0, 0]
@[reducible] def k0_t5_loop : Scf.Loop 32 :=
  let c1_i32_68 : BitVec 32 := 1#32
  let c31_i32_69 : BitVec 32 := 31#32
  let v184 : BitVec 32 := Scalar.addi c1_i32_68 c31_i32_69
  let c1_i32_70 : BitVec 32 := 1#32
  ⟨c1_i32_68, v184, c1_i32_70⟩
def k0_off10 (k0_t5 : Fin k0_t5_loop.trips) : Fin 1 → Nat :=
  let c1_i32_68 : BitVec 32 := 1#32
  let c1_i32_70 : BitVec 32 := 1#32
  let arg13 : BitVec 32 := Scf.iv c1_i32_68 c1_i32_70 k0_t5
  ![arg13.toNat]
@[reducible] def k0_t6_loop : Scf.Loop 32 :=
  let c1_i32_78 : BitVec 32 := 1#32
  let c31_i32_79 : BitVec 32 := 31#32
  let v189 : BitVec 32 := Scalar.addi c1_i32_78 c31_i32_79
  let c1_i32_80 : BitVec 32 := 1#32
  ⟨c1_i32_78, v189, c1_i32_80⟩
def k0_off11 (k0_t6 : Fin k0_t6_loop.trips) : Fin 1 → Nat :=
  let c1_i32_78 : BitVec 32 := 1#32
  let c1_i32_80 : BitVec 32 := 1#32
  let arg13 : BitVec 32 := Scf.iv c1_i32_78 c1_i32_80 k0_t6
  ![arg13.toNat]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x256 : Shape := ⟨2, ![32768, 256]⟩
abbrev S256x128 : Shape := ⟨2, ![256, 128]⟩
abbrev S32768x2 : Shape := ⟨2, ![32768, 2]⟩
abbrev S128x256x512 : Shape := ⟨3, ![128, 256, 512]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x2x1 : Shape := ⟨3, ![32768, 2, 1]⟩
abbrev S1 : Shape := ⟨1, ![1]⟩
abbrev S1x1x1 : Shape := ⟨3, ![1, 1, 1]⟩
abbrev S1x1 : Shape := ⟨2, ![1, 1]⟩
abbrev S32768x256x512 : Shape := ⟨3, ![32768, 256, 512]⟩
abbrev S32768x512 : Shape := ⟨2, ![32768, 512]⟩

abbrev nBuf : Space → Nat
  | .hbm => 83
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x128, .f32⟩
  | .hbm, ⟨2, _⟩ => ⟨S32768x2, .i32⟩
  | .hbm, ⟨3, _⟩ => ⟨S128x256x512, .f32⟩
  | .hbm, ⟨4, _⟩ => ⟨S32768x128, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x128, .f32⟩
  | .hbm, ⟨15, _⟩ => ⟨S32768x128, .f32⟩
  | .hbm, ⟨16, _⟩ => ⟨S32768x1, .i32⟩
  | .hbm, ⟨17, _⟩ => ⟨S32768, .i32⟩
  | .hbm, ⟨18, _⟩ => ⟨S32768x1, .i32⟩
  | .hbm, ⟨19, _⟩ => ⟨S32768, .i32⟩
  | .hbm, ⟨20, _⟩ => ⟨S32768x2x1, .i32⟩
  | .hbm, ⟨21, _⟩ => ⟨S1, .i32⟩
  | .hbm, ⟨22, _⟩ => ⟨S_, .i32⟩
  | .hbm, ⟨23, _⟩ => ⟨S32768x2x1, .i32⟩
  | .hbm, ⟨24, _⟩ => ⟨S32768x2x1, .i1⟩
  | .hbm, ⟨25, _⟩ => ⟨S1x1x1, .i32⟩
  | .hbm, ⟨26, _⟩ => ⟨S32768x2x1, .i32⟩
  | .hbm, ⟨27, _⟩ => ⟨S32768x2x1, .i1⟩
  | .hbm, ⟨28, _⟩ => ⟨S32768x2x1, .i1⟩
  | .hbm, ⟨29, _⟩ => ⟨S_, .i1⟩
  | .hbm, ⟨30, _⟩ => ⟨S32768x2, .i1⟩
  | .hbm, ⟨31, _⟩ => ⟨S32768x2, .f32⟩
  | .hbm, ⟨32, _⟩ => ⟨S_, .f32⟩
  | .hbm, ⟨33, _⟩ => ⟨S32768x2, .f32⟩
  | .hbm, ⟨34, _⟩ => ⟨S32768x2, .f32⟩
  | .hbm, ⟨35, _⟩ => ⟨S32768x1, .f32⟩
  | .hbm, ⟨36, _⟩ => ⟨S32768, .f32⟩
  | .hbm, ⟨37, _⟩ => ⟨S32768x1, .f32⟩
  | .hbm, ⟨38, _⟩ => ⟨S32768, .f32⟩
  | .hbm, ⟨39, _⟩ => ⟨S32768, .f32⟩
  | .hbm, ⟨40, _⟩ => ⟨S32768x1, .i32⟩
  | .hbm, ⟨41, _⟩ => ⟨S1, .i32⟩
  | .hbm, ⟨42, _⟩ => ⟨S_, .i32⟩
  | .hbm, ⟨43, _⟩ => ⟨S32768x1, .i32⟩
  | .hbm, ⟨44, _⟩ => ⟨S32768x1, .i1⟩
  | .hbm, ⟨45, _⟩ => ⟨S1x1, .i32⟩
  | .hbm, ⟨46, _⟩ => ⟨S32768x1, .i32⟩
  | .hbm, ⟨47, _⟩ => ⟨S32768x1, .i1⟩
  | .hbm, ⟨48, _⟩ => ⟨S32768x1, .i1⟩
  | .hbm, ⟨49, _⟩ => ⟨S_, .i1⟩
  | .hbm, ⟨50, _⟩ => ⟨S32768, .i1⟩
  | .hbm, ⟨51, _⟩ => ⟨S32768x256x512, .f32⟩
  | .hbm, ⟨52, _⟩ => ⟨S32768x256x512, .i1⟩
  | .hbm, ⟨53, _⟩ => ⟨S_, .f32⟩
  | .hbm, ⟨54, _⟩ => ⟨S32768x256x512, .f32⟩
  | .hbm, ⟨55, _⟩ => ⟨S32768x256x512, .f32⟩
  | .hbm, ⟨56, _⟩ => ⟨S32768x512, .f32⟩
  | .hbm, ⟨57, _⟩ => ⟨S32768x1, .i32⟩
  | .hbm, ⟨58, _⟩ => ⟨S1, .i32⟩
  | .hbm, ⟨59, _⟩ => ⟨S_, .i32⟩
  | .hbm, ⟨60, _⟩ => ⟨S32768x1, .i32⟩
  | .hbm, ⟨61, _⟩ => ⟨S32768x1, .i1⟩
  | .hbm, ⟨62, _⟩ => ⟨S1x1, .i32⟩
  | .hbm, ⟨63, _⟩ => ⟨S32768x1, .i32⟩
  | .hbm, ⟨64, _⟩ => ⟨S32768x1, .i1⟩
  | .hbm, ⟨65, _⟩ => ⟨S32768x1, .i1⟩
  | .hbm, ⟨66, _⟩ => ⟨S_, .i1⟩
  | .hbm, ⟨67, _⟩ => ⟨S32768, .i1⟩
  | .hbm, ⟨68, _⟩ => ⟨S32768x256x512, .f32⟩
  | .hbm, ⟨69, _⟩ => ⟨S32768x256x512, .i1⟩
  | .hbm, ⟨70, _⟩ => ⟨S_, .f32⟩
  | .hbm, ⟨71, _⟩ => ⟨S32768x256x512, .f32⟩
  | .hbm, ⟨72, _⟩ => ⟨S32768x256x512, .f32⟩
  | .hbm, ⟨73, _⟩ => ⟨S32768x512, .f32⟩
  | .hbm, ⟨74, _⟩ => ⟨S32768, .f32⟩
  | .hbm, ⟨75, _⟩ => ⟨S32768x1, .f32⟩
  | .hbm, ⟨76, _⟩ => ⟨S32768x512, .f32⟩
  | .hbm, ⟨77, _⟩ => ⟨S32768x512, .f32⟩
  | .hbm, ⟨78, _⟩ => ⟨S32768, .f32⟩
  | .hbm, ⟨79, _⟩ => ⟨S32768x1, .f32⟩
  | .hbm, ⟨80, _⟩ => ⟨S32768x512, .f32⟩
  | .hbm, ⟨81, _⟩ => ⟨S32768x512, .f32⟩
  | .hbm, ⟨82, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_c_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.Cells.lean ====
/-
# The devices, the semaphore cells and the buffer slots of the kernel

Thirty-two devices; at trip `j` of a loop device `c` addresses the device `j + 1` places after it (`nxt c j`), and is
addressed by the device `j + 1` places before it (`prv c j`). Each device has one barrier cell and four families of
thirty-two transfer cells (tokens out, tokens in, results out, results in); trip `j` uses member `j + 1` of a family.
Each of the four scratch buffers is cut in thirty-two slots along its first axis, one per device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The device `j + 1` places after `c`. -/
def nxt (c : Dev nD) (j : Fin 31) : Dev nD := ⟨(c.val + j.val + 1) % 32, Nat.mod_lt _ (by decide)⟩
/-- The device `j + 1` places before `c`. -/
def prv (c : Dev nD) (j : Fin 31) : Dev nD := ⟨(c.val + (31 - j.val)) % 32, Nat.mod_lt _ (by decide)⟩

theorem prv_nxt (c : Dev nD) (j : Fin 31) : prv (nxt c j) j = c := by
  apply Fin.ext; have := c.isLt; have := j.isLt; simp only [nxt, prv, nD] at *; omega
theorem nxt_prv (c : Dev nD) (j : Fin 31) : nxt (prv c j) j = c := by
  apply Fin.ext; have := c.isLt; have := j.isLt; simp only [nxt, prv, nD] at *; omega
theorem prv_rev (c : Dev nD) (j : Fin 31) : prv c j.rev = nxt c j := by
  apply Fin.ext; have := c.isLt; have := j.isLt; simp only [nxt, prv, nD, Fin.val_rev] at *; omega

/-- Trip `j`'s shift as a permutation of the devices. -/
def shift (j : Fin 31) : Dev nD ≃ Dev nD := ⟨fun c => nxt c j, fun c => prv c j, fun c => prv_nxt c j, fun c => nxt_prv c j⟩

theorem nxt_ne (c : Dev nD) (j : Fin 31) : nxt c j ≠ c := by
  intro h; have := congrArg Fin.val h; have := c.isLt; have := j.isLt; simp only [nxt, nD] at *; omega
theorem nxt_inj (c : Dev nD) : Function.Injective (nxt c) := by
  intro j j' h; apply Fin.ext; have := congrArg Fin.val h
  have := c.isLt; have := j.isLt; have := j'.isLt; simp only [nxt, nD] at *; omega
theorem univ_nxt (c : Dev nD) : (Finset.univ : Finset (Dev nD)) = insert c (Finset.univ.map ⟨nxt c, nxt_inj c⟩) := by
  symm; rw [Finset.eq_univ_iff_forall]; intro d
  by_cases h : d = c
  · rw [h]; exact Finset.mem_insert_self _ _
  · refine Finset.mem_insert_of_mem (Finset.mem_map.mpr ⟨⟨(d.val + 32 - c.val - 1) % 32 % 31, Nat.mod_lt _ (by decide)⟩, Finset.mem_univ _, Fin.ext ?_⟩)
    have h' : d.val ≠ c.val := fun e => h (Fin.ext e)
    have := c.isLt; have := d.isLt; simp only [nxt, nD, Function.Embedding.coeFn_mk] at *; omega

/-- Devices apart from `c` are the ones its trips address: a family over all devices is `c`'s member and those. -/
theorem bigSep_dev {M : Type} [URA M] (c : Dev nD) (Φ : Dev nD → sProp M) :
    bigSep Finset.univ Φ = iprop(Φ c ∗ bigSep Finset.univ fun j : Fin 31 => Φ (nxt c j)) := by
  rw [univ_nxt c, bigSep_insert (by
    intro h; obtain ⟨j, -, hj⟩ := Finset.mem_map.mp h; exact nxt_ne c j hj), bigSep_map]; rfl

/-- The same with the devices that address `c`. -/
theorem bigSep_dev_prv {M : Type} [URA M] (c : Dev nD) (Φ : Dev nD → sProp M) :
    bigSep Finset.univ Φ = iprop(Φ c ∗ bigSep Finset.univ fun j : Fin 31 => Φ (prv c j)) := by
  rw [bigSep_dev c, bigSep_univ_equiv Fin.revPerm (fun j : Fin 31 => Φ (prv c j))]
  exact congrArg (fun X => iprop(Φ c ∗ X)) (congrArg _ (funext fun j => by show _ = Φ (prv c j.rev); rw [prv_rev]))

/-- A family over an optional index is the member at none and the others. -/
theorem bigSep_option {M : Type} [URA M] {K : Type} [Fintype K] [DecidableEq K] (Φ : Option K → sProp M) :
    bigSep Finset.univ Φ = iprop(Φ none ∗ bigSep Finset.univ fun k => Φ (some k)) := by
  rw [show (Finset.univ : Finset (Option K)) = insert none (Finset.univ.map Function.Embedding.some) from by
    ext x; cases x <;> simp, bigSep_insert (by simp), bigSep_map]; rfl

/-! ## Cells -/

/-- The runtime's barrier semaphore. -/
abbrev barS : Sem sig := (SemArray.scalar (sig.barrier 0 rfl) : Sems sig S_).sem

/-- The transfer semaphore of family `a` (0 tokens out, 1 tokens in, 2 results out, 3 results in), member `i`. -/
def dS (a : Fin 4) (i : Fin 32) : DmaSem sig := ⟨5 + 32 * a.val + i.val, by have := a.isLt; have := i.isLt; show _ < 133; omega⟩

abbrev barCell (c : Dev nD) : GSem nD τ sig := ((c : Thread nD τ), .reg barS)
abbrev xCell (c : Dev nD) (a : Fin 4) (i : Fin 32) : GSem nD τ sig := ((c : Thread nD τ), .dma (dS a i))

/-- The kernel's own semaphores. -/
abbrev osem : Fin 4 × Fin 32 → SemLoc sig := fun k => .dma (dS k.1 k.2)
/-- Those and the barrier. -/
abbrev csem : Option (Fin 4 × Fin 32) → SemLoc sig := fun | none => .reg barS | some k => osem k
abbrev kcell (ck : Dev nD × Option (Fin 4 × Fin 32)) : GSem nD τ sig := ((ck.1 : Thread nD τ), csem ck.2)

/-- The family and member of a transfer semaphore's number. -/
def famOf (q : DmaSem sig) : Fin 4 × Fin 32 := (⟨(q.val - 5) / 32 % 4, Nat.mod_lt _ (by decide)⟩, ⟨(q.val - 5) % 32, Nat.mod_lt _ (by decide)⟩)

theorem famOf_dS (a : Fin 4) (i : Fin 32) : famOf (dS a i) = (a, i) := by
  have := a.isLt; have := i.isLt
  refine Prod.ext (Fin.ext ?_) (Fin.ext ?_) <;> simp only [famOf, dS] <;> omega

theorem osem_injective : Function.Injective osem := fun k k' h => by
  have : dS k.1 k.2 = dS k'.1 k'.2 := by injection h
  have := congrArg famOf this; rwa [famOf_dS, famOf_dS] at this

theorem ownSemFacts : Pipeline.OwnSemFacts cfg0.spec osem where
  isScoped := by decide +kernel
  inj := osem_injective
  disj := fun k w s h => by
    have h' : dS k.1 k.2 = (spec0 w).sem s := by injection h
    have h2 : ∀ (w : Fin 5) (s : Fin (spec0 w).nbuf), ((spec0 w).sem s).val < 5 := by decide
    have h2 := h2 w s
    rw [← h'] at h2; simp only [dS] at h2; omega

theorem kcell_injective : Function.Injective kcell := by
  rintro ⟨c, k⟩ ⟨c', k'⟩ h
  obtain rfl : c = c' := congrArg (fun g : GSem nD τ sig => g.1.1) h
  have h2 : csem k = csem k' := congrArg Prod.snd h
  cases k <;> cases k'
  · rfl
  · cases h2
  · cases h2
  · rw [osem_injective h2]

/-! ## The programs' trip counts, devices and semaphores -/

theorem trips1 : k0_t1_loop.trips = 31 := by decide +kernel
theorem trips2 : k0_t2_loop.trips = 31 := by decide +kernel
theorem trips3 : k0_t3_loop.trips = 31 := by decide +kernel
theorem trips4 : k0_t4_loop.trips = 31 := by decide +kernel
theorem trips5 : k0_t5_loop.trips = 31 := by decide +kernel
theorem trips6 : k0_t6_loop.trips = 31 := by decide +kernel

theorem dev1_eq (c : Dev nD) (t : Fin k0_t1_loop.trips) : (⟨k0_dev1 c t, k0_dev1_lt c t⟩ : Dev nD) = nxt c (t.cast trips1) :=
  Fin.ext (k0_dev1_eq c t)
theorem dev2_eq (c : Dev nD) (t : Fin k0_t2_loop.trips) : (⟨k0_dev2 c t, k0_dev2_lt c t⟩ : Dev nD) = nxt c (t.cast trips2) :=
  Fin.ext (k0_dev2_eq c t)
theorem dev3_eq (c : Dev nD) (t : Fin k0_t4_loop.trips) : (⟨k0_dev3 c t, k0_dev3_lt c t⟩ : Dev nD) = nxt c (t.cast trips4) :=
  Fin.ext (k0_dev3_eq c t)

/-- The index of one axis of length thirty-two. -/
def idx32 (i : Fin 32) : S32.Idx := fun a => ⟨i.val, by obtain rfl : a = 0 := Subsingleton.elim _ _; exact i.isLt⟩

theorem sems_of_off (A : DmaSems sig S32) (a : Fin 4) (hA : ∀ i : Fin 32, A.ix (idx32 i) = dS a i) (off : Fin S32.rank → Nat) (i : Fin 32) (h : off = ![i.val]) (inb) :
    ((A.slice (Rect.unit (s := S32) off S1.size inb)).squeeze S_ squeezes_S1_S_).sem = dS a i := by
  subst h
  rw [← hA i]
  show A.ix _ = A.ix _
  congr 1
  funext x
  obtain rfl : x = 0 := Subsingleton.elim _ _
  apply Fin.ext
  show i.val + 1 * _ = i.val
  have : ∀ z : Fin 1, i.val + 1 * z.val = i.val := fun z => by omega
  exact this _

theorem ix4 (i : Fin 32) : (cc0_scratch4 : DmaSems sig S32).ix (idx32 i) = dS 0 i := by revert i; decide +kernel
theorem ix5 (i : Fin 32) : (cc0_scratch5 : DmaSems sig S32).ix (idx32 i) = dS 1 i := by revert i; decide +kernel
theorem ix6 (i : Fin 32) : (cc0_scratch6 : DmaSems sig S32).ix (idx32 i) = dS 2 i := by revert i; decide +kernel
theorem ix7 (i : Fin 32) : (cc0_scratch7 : DmaSems sig S32).ix (idx32 i) = dS 3 i := by revert i; decide +kernel

/-! ## Slots -/

/-- The elements of a shape whose coordinate on axis `z` is `n`. -/
def slotOf (S : Shape) (z : Fin S.rank) (n : ℕ) : Finset S.Idx := Finset.univ.filter fun i => (i z).val = n

theorem mem_slotOf {S : Shape} {z : Fin S.rank} {n : ℕ} {i : S.Idx} : i ∈ slotOf S z n ↔ (i z).val = n := by
  unfold slotOf; rw [Finset.mem_filter]; exact and_iff_right (Finset.mem_univ _)

/-- A rectangle one long on axis `z` and whole on the others is a slot. -/
theorem rect_slot (S : Shape) (z : Fin S.rank) (off size : Fin S.rank → ℕ) (inb) (hz : size z = 1)
    (ho : ∀ a, a ≠ z → off a = 0 ∧ size a = S.size a) : (Rect.unit (s := S) off size inb).set = slotOf S z (off z) := by
  ext i
  rw [mem_slotOf, LoadRect.mem_set]
  constructor
  · intro h
    obtain ⟨j, hj, e⟩ := h z
    change j < size z at hj
    change (i z : ℕ) = off z + 1 * j at e
    omega
  · intro h a
    by_cases ha : a = z
    · subst ha
      exact ⟨0, by show 0 < size a; omega, by show (i a : ℕ) = off a + 1 * 0; omega⟩
    · obtain ⟨h0, h1⟩ := ho a ha
      exact ⟨i a, by show (i a : ℕ) < size a; rw [h1]; exact (i a).isLt, by show (i a : ℕ) = off a + 1 * _; omega⟩

theorem slot_disjoint (S : Shape) (z : Fin S.rank) {n n' : ℕ} (h : n ≠ n') : Disjoint (slotOf S z n) (slotOf S z n') := by
  rw [Finset.disjoint_left]; intro i hi hi'
  rw [mem_slotOf] at hi hi'; exact h (hi.symm.trans hi')

/-- An index moved to slot `n`. -/
def inSlot {S : Shape} (z : Fin S.rank) (n : ℕ) (hn : n < S.size z) (i : S.Idx) : S.Idx :=
  fun a => if h : a = z then ⟨n, by rw [h]; exact hn⟩ else i a

/-- The elements of a squeezed rectangle of a whole buffer, coordinate by coordinate. -/
theorem slot_emb_val (b : Ref sig .tc) (off size : Fin b.ty.shape.rank → ℕ) (inb) (hs) (s' : Shape) (hq)
    (x : s'.Idx) (a : Fin b.ty.shape.rank) :
    ((((Memref.whole b).slice (Rect.unit (s := b.ty.shape) off size inb) hs).squeeze s' hq).view.emb x a).val
      = off a + (Shape.reshapeEquiv hq.numel_eq x a).val := by
  show off a + 1 * _ = _
  rw [Nat.one_mul]; rfl

theorem slot_set (b : Ref sig .tc) (off size : Fin b.ty.shape.rank → ℕ) (inb) (hs) (s' : Shape) (hq) :
    (((Memref.whole b).slice (Rect.unit (s := b.ty.shape) off size inb) hs).squeeze s' hq).view.set
      = (Rect.unit (s := b.ty.shape) off size inb).set :=
  (View.set_reshape _ _).trans (View.set_slice_whole _ _)

abbrev Sa : Shape := S32x192x256
abbrev Sb : Shape := S32x192x512

theorem slots_cover_a : (Finset.univ : Finset (Dev nD)).biUnion (fun s => slotOf Sa (0 : Fin 3) s.val) = Finset.univ := by
  rw [Finset.eq_univ_iff_forall]; intro i
  exact Finset.mem_biUnion.mpr ⟨⟨(i (0 : Fin 3)).val, (i (0 : Fin 3)).isLt⟩, Finset.mem_univ _, mem_slotOf.mpr rfl⟩
theorem slots_cover_b : (Finset.univ : Finset (Dev nD)).biUnion (fun s => slotOf Sb (0 : Fin 3) s.val) = Finset.univ := by
  rw [Finset.eq_univ_iff_forall]; intro i
  exact Finset.mem_biUnion.mpr ⟨⟨(i (0 : Fin 3)).val, (i (0 : Fin 3)).isLt⟩, Finset.mem_univ _, mem_slotOf.mpr rfl⟩
theorem slots_disj (S : Shape) (z : Fin S.rank) (s s' : Dev nD) (h : s ≠ s') : Disjoint (slotOf S z s.val) (slotOf S z s'.val) :=
  slot_disjoint S z fun e => h (Fin.ext e)

end Cert.MoeProof

end
-- ==== Proof.Sched.lean ====
/-
# The contents of the run and the schedule of its payloads

What each buffer of each device holds, named once: the gate weights, the token rows sent out (`dispV`) and received
(`recvV`), the expert results sent back (`retV`) and received (`retrV`), the kernel's result (`outV`). Then the one
round of every cell: who pays it, how much, and what is handed over with it.
-/
module

public import proofs.«01_k».proof.Proof.Cells

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' resource, its duties named by trips. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- A device's block of each argument, as staged. -/
def xs (c : Dev nD) : (cc0_stg0_0 : Ref sig .tc).ty.Contents (Elt F) := (win0_0.blk (0 : Fin 1)).view.read (Elt F) (m ((c : Thread nD τ).loc main_arg0))
def ws (c : Dev nD) : (cc0_stg1_0 : Ref sig .tc).ty.Contents (Elt F) := (win0_1.blk (0 : Fin 1)).view.read (Elt F) (m ((c : Thread nD τ).loc main_arg1))
def ix (c : Dev nD) : (cc0_stg2_0 : Ref sig .tc).ty.Contents (Elt F) := (win0_2.blk (0 : Fin 1)).view.read (Elt F) (m ((c : Thread nD τ).loc main_arg2))
def es (c : Dev nD) : (cc0_stg3_0 : Ref sig .tc).ty.Contents (Elt F) := (win0_3.blk (0 : Fin 1)).view.read (Elt F) (m ((c : Thread nD τ).loc main_arg3))

/-- The two columns of a device's expert numbers. -/
def ixA (c : Dev nD) : Vec F S1024x1 .i32 :=
  (Memref.whole cc0_stg2_0 : Memref sig .tc .vmem S1024x2 .i32).view.readAt (Elt F) (Rect.unit (s := S1024x2) ![0, 0] S1024x1.size inb_S1024x2_S1024x1_0_0).toLoadRect (ix m c)
def ixB (c : Dev nD) : Vec F S1024x1 .i32 :=
  (Memref.whole cc0_stg2_0 : Memref sig .tc .vmem S1024x2 .i32).view.readAt (Elt F) (Rect.unit (s := S1024x2) ![0, 1] S1024x1.size inb_S1024x2_S1024x1_0_1).toLoadRect (ix m c)

def selA (c : Dev nD) : IVec S128x1024 1 := k0_pay12 (k0_pay4 (F := F) (ixA m c))
def selB (c : Dev nD) : IVec S128x1024 1 := k0_pay13 (k0_pay5 (F := F) (ixB m c))
def cnt (c : Dev nD) : IVec S128x1024 32 := k0_pay14 (k0_pay4 (F := F) (ixA m c)) (k0_pay5 (F := F) (ixB m c))
def sumA (c : Dev nD) : IVec S128x1024 32 := k0_pay15 (k0_pay4 (F := F) (ixA m c)) (k0_pay5 (F := F) (ixB m c))
def sumB (c : Dev nD) : IVec S128x1024 32 := k0_pay16 (k0_pay4 (F := F) (ixA m c)) (k0_pay5 (F := F) (ixB m c))
def gA (c : Dev nD) : FVec F S1024x1 .f32 := k0_pay10 (k0_pay6 (xs m c) (ws m c) (ixA m c)) (k0_pay7 (xs m c) (ws m c) (ixB m c))
def gB (c : Dev nD) : FVec F S1024x1 .f32 := k0_pay11 (k0_pay6 (xs m c) (ws m c) (ixA m c)) (k0_pay7 (xs m c) (ws m c) (ixB m c))

/-- The gate weights by slot and token, and the token rows by slot. -/
def gateV (c : Dev nD) : FVec F S6144x1024 .bf16 := k0_pay20 (gA m c) (gB m c) (selA m c) (selB m c) (cnt m c) (sumA m c) (sumB m c)
def dispV (c : Dev nD) : Vec F Sa .bf16 := k0_pay21 (k0_pay2 (xs m c)) (selA m c) (selB m c) (cnt m c) (sumA m c) (sumB m c)

/-- Slot `s` of what `c` receives is slot `c` of what `s` sends. -/
def recvV (c : Dev nD) : Vec F Sa .bf16 := fun i => dispV m ⟨(i (0 : Fin 3)).val, (i (0 : Fin 3)).isLt⟩ (inSlot (S := Sa) (0 : Fin 3) c.val c.isLt i)

/-- The results of the four experts held by `c`, for the rows of every sender. -/
def retPart (c : Dev nD) : Fin 4 → Vec F S32x48x512 .bf16
  | 0 => k0_pay24 (recvV m c) (es m c)
  | 1 => k0_pay25 (recvV m c) (es m c)
  | 2 => k0_pay27 (k0_pay26 (recvV m c) (es m c))
  | 3 => k0_pay28 (recvV m c) (k0_pay23 (es m c))

/-- The index in a forty-eight row part of an index among the hundred and ninety-two rows. -/
def inPart (i : Sb.Idx) : S32x48x512.Idx := fun a => match a with
  | ⟨0, _⟩ => ⟨(i (0 : Fin 3)).val, (i (0 : Fin 3)).isLt⟩
  | ⟨1, _⟩ => ⟨(i (1 : Fin 3)).val % 48, Nat.mod_lt _ (by decide)⟩
  | ⟨2, _⟩ => ⟨(i (2 : Fin 3)).val, (i (2 : Fin 3)).isLt⟩

/-- The part an index lies in. -/
def partOf (i : Sb.Idx) : Fin 4 := ⟨(i (1 : Fin 3)).val / 48, by have : (i (1 : Fin 3)).val < 192 := (i (1 : Fin 3)).isLt; omega⟩

def retV (c : Dev nD) : Vec F Sb .bf16 := fun i => retPart m c (partOf i) (inPart i)
def retrV (c : Dev nD) : Vec F Sb .bf16 := fun i => retV m ⟨(i (0 : Fin 3)).val, (i (0 : Fin 3)).isLt⟩ (inSlot (S := Sb) (0 : Fin 3) c.val c.isLt i)
def outV (c : Dev nD) : (cc0_stg4_0 : Ref sig .tc).ty.Contents (Elt F) := k0_pay30 (gateV m c) (retrV m c)

/-! ## Slots held -/

/-- Slot `s` of device `c`'s buffer, held at the contents `f`. -/
def dispS (c s : Dev nD) (f : Vec F Sa .bf16) : sProp 𝕄 := ((c : Thread nD τ).loc cc0_scratch0) ↦[slotOf Sa (0 : Fin 3) s.val]{fullShare} f
def recvS (c s : Dev nD) (f : Vec F Sa .bf16) : sProp 𝕄 := ((c : Thread nD τ).loc cc0_scratch1) ↦[slotOf Sa (0 : Fin 3) s.val]{fullShare} f
def retS (c s : Dev nD) (f : Vec F Sb .bf16) : sProp 𝕄 := ((c : Thread nD τ).loc cc0_scratch2) ↦[slotOf Sb (0 : Fin 3) s.val]{fullShare} f
def retrS (c s : Dev nD) (f : Vec F Sb .bf16) : sProp 𝕄 := ((c : Thread nD τ).loc cc0_scratch3) ↦[slotOf Sb (0 : Fin 3) s.val]{fullShare} f

omit [FloatOps F] in
instance dispS_storable (c s : Dev nD) (f) : BI.Storable (upEmb : UEmb _ 𝕄) (dispS (F := F) c s f) := by unfold dispS; infer_instance
omit [FloatOps F] in
instance recvS_storable (c s : Dev nD) (f) : BI.Storable (upEmb : UEmb _ 𝕄) (recvS (F := F) c s f) := by unfold recvS; infer_instance
omit [FloatOps F] in
instance retS_storable (c s : Dev nD) (f) : BI.Storable (upEmb : UEmb _ 𝕄) (retS (F := F) c s f) := by unfold retS; infer_instance
omit [FloatOps F] in
instance retrS_storable (c s : Dev nD) (f) : BI.Storable (upEmb : UEmb _ 𝕄) (retrS (F := F) c s f) := by unfold retrS; infer_instance

omit [FloatOps F] in
/-- A buffer held whole is its slots. -/
theorem disp_slots (c : Dev nD) (f : Vec F Sa .bf16) : ((((c : Thread nD τ).loc cc0_scratch0) ↦{fullShare} f : sProp 𝕄)) = bigSep Finset.univ fun s : Dev nD => dispS c s f :=
  Ring.pointsTo_blocks (ℓ := (c : Thread nD τ).loc cc0_scratch0) (fun s : Dev nD => slotOf Sa (0 : Fin 3) s.val) (slots_disj Sa _) slots_cover_a f
omit [FloatOps F] in
theorem recv_slots (c : Dev nD) (f : Vec F Sa .bf16) : ((((c : Thread nD τ).loc cc0_scratch1) ↦{fullShare} f : sProp 𝕄)) = bigSep Finset.univ fun s : Dev nD => recvS c s f :=
  Ring.pointsTo_blocks (ℓ := (c : Thread nD τ).loc cc0_scratch1) (fun s : Dev nD => slotOf Sa (0 : Fin 3) s.val) (slots_disj Sa _) slots_cover_a f
omit [FloatOps F] in
theorem ret_slots (c : Dev nD) (f : Vec F Sb .bf16) : ((((c : Thread nD τ).loc cc0_scratch2) ↦{fullShare} f : sProp 𝕄)) = bigSep Finset.univ fun s : Dev nD => retS c s f :=
  Ring.pointsTo_blocks (ℓ := (c : Thread nD τ).loc cc0_scratch2) (fun s : Dev nD => slotOf Sb (0 : Fin 3) s.val) (slots_disj Sb _) slots_cover_b f
omit [FloatOps F] in
theorem retr_slots (c : Dev nD) (f : Vec F Sb .bf16) : ((((c : Thread nD τ).loc cc0_scratch3) ↦{fullShare} f : sProp 𝕄)) = bigSep Finset.univ fun s : Dev nD => retrS c s f :=
  Ring.pointsTo_blocks (ℓ := (c : Thread nD τ).loc cc0_scratch3) (fun s : Dev nD => slotOf Sb (0 : Fin 3) s.val) (slots_disj Sb _) slots_cover_b f

/-! ## The schedule -/

/-- The credit of a transfer of token rows and of result rows. -/
abbrev N1 : ℕ := ((Memref.whole cc0_scratch1 : Memref sig .tc .vmem Sa .bf16).slice (Rect.unit (s := Sa) ![0, 0, 0] S1x192x256.size inb_S32x192x256_S1x192x256_0_0_0) (fun _ => rfl)
  |>.squeeze S192x256 squeezes_S1x192x256_S192x256).view.dmaCredit
abbrev N2 : ℕ := ((Memref.whole cc0_scratch3 : Memref sig .tc .vmem Sb .bf16).slice (Rect.unit (s := Sb) ![0, 0, 0] S1x192x512.size inb_S32x192x512_S1x192x512_0_0_0) (fun _ => rfl)
  |>.squeeze S192x512 squeezes_S1x192x512_S192x512).view.dmaCredit

theorem N1_pos : 0 < N1 := View.dmaCredit_pos _ (by decide)
theorem N2_pos : 0 < N2 := View.dmaCredit_pos _ (by decide)

/-- A family's credit: the first two move token rows, the last two result rows. -/
def Nf (a : Fin 4) : ℕ := if a.val < 2 then N1 else N2
theorem Nf_pos (a : Fin 4) : 0 < Nf a := by unfold Nf; split; exact N1_pos; exact N2_pos

/-- The device `i` places after `c`, and before. -/
def up (c : Dev nD) (i : Fin 32) : Dev nD := ⟨(c.val + i.val) % 32, Nat.mod_lt _ (by decide)⟩
def dn (c : Dev nD) (i : Fin 32) : Dev nD := ⟨(c.val + (32 - i.val)) % 32, Nat.mod_lt _ (by decide)⟩
theorem up_succ (c : Dev nD) (j : Fin 31) : up c j.succ = nxt c j := Fin.ext (by simp only [up, nxt, Fin.val_succ]; omega)
theorem dn_succ (c : Dev nD) (j : Fin 31) : dn c j.succ = prv c j := Fin.ext (by simp only [dn, prv, Fin.val_succ]; have := j.isLt; omega)

/-- Duty `j` of `c`'s barrier cell is paid by `prv c j`, with its two landing slots for `c`. -/
def barPay (c : Dev nD) (j : Fin 31) : sProp 𝕄 := iprop((∃ f, recvS (prv c j) c f) ∗ ∃ f, retrS (prv c j) c f)

/-- What the landing of a transfer hands over: to its sender the slot it sent, to its receiver the slot filled. -/
def xPay (c : Dev nD) (k : Fin 4 × Fin 32) : sProp 𝕄 := match k.1 with
  | 0 => dispS c (up c k.2) (dispV m c)
  | 1 => recvS c (dn c k.2) (recvV m c)
  | 2 => retS c (up c k.2) (retV m c)
  | 3 => retrS c (dn c k.2) (retrV m c)

instance barPay_storable (c : Dev nD) (j) : BI.Storable (upEmb : UEmb _ 𝕄) (barPay (F := F) c j) := by unfold barPay; infer_instance
instance xPay_storable (c : Dev nD) (k) : BI.Storable (upEmb : UEmb _ 𝕄) (xPay (F := F) m c k) := by
  unfold xPay; split <;> infer_instance

/-- The duties of a cell in round 0. -/
def dut (g : GSem nD τ sig) : Finset (Fin 31) := match g.2 with
  | .reg s => if s = barS then Finset.univ else ∅
  | .dma q => if 5 ≤ q.val ∧ (famOf q).2 ≠ 0 then {0} else ∅

/-- One round: a barrier cell has thirty-one duties of one unit, a transfer cell one duty of its family's credit. -/
def moeRd : Rounds.Schedule (GSem nD τ sig) (Fin 31) 𝕄 where
  duties g r := if r = 0 ∧ g.1.2 = .tc then dut g else ∅
  unitless _ := False
  amount g _ _ := match g.2 with | .reg _ => 1 | .dma q => Nf (famOf q).1
  payload g _ d := match g.2 with | .reg _ => barPay g.1.1 d | .dma q => xPay m g.1.1 (famOf q)
  amount_pos g _ _ _ := by
    rcases g with ⟨t, s | q⟩
    · exact Nat.one_pos
    · exact Nf_pos _

instance moeRd_payload_storable (g : GSem nD τ sig) (r : ℕ) (d : Fin 31) :
    BI.Storable (upEmb : UEmb _ 𝕄) ((moeRd (F := F) m).payload g r d) := by
  rcases g with ⟨t, s | q⟩
  · exact barPay_storable _ _
  · exact xPay_storable m _ _

section Sched
variable (c : Dev nD)

theorem duties_bar : (moeRd (F := F) m).duties (barCell c) 0 = Finset.univ := by
  show (if 0 = 0 ∧ Kind.tc = Kind.tc then dut (barCell c) else ∅) = _
  rw [if_pos ⟨rfl, rfl⟩]; unfold dut; exact if_pos rfl
theorem duties_x (a : Fin 4) (j : Fin 31) : (moeRd (F := F) m).duties (xCell c a j.succ) 0 = {0} := by
  show (if 0 = 0 ∧ Kind.tc = Kind.tc then dut (xCell c a j.succ) else ∅) = _
  rw [if_pos ⟨rfl, rfl⟩]
  refine if_pos ⟨?_, ?_⟩
  · simp only [dS]; omega
  · rw [famOf_dS]; exact Fin.succ_ne_zero j
theorem duties_x0 (a : Fin 4) (r : ℕ) : (moeRd (F := F) m).duties (xCell c a 0) r = ∅ := by
  dsimp only [moeRd]
  split
  · exact if_neg fun h => h.2 (by rw [famOf_dS])
  · rfl
theorem duties_later (g : GSem nD τ sig) : ∀ r, 1 ≤ r → (moeRd (F := F) m).duties g r = ∅ :=
  fun r hr => by dsimp only [moeRd]; exact if_neg fun h => by omega

theorem amount_bar (j : Fin 31) : (moeRd (F := F) m).amount (barCell c) 0 j = 1 := rfl
theorem amount_x (a : Fin 4) (i : Fin 32) (d : Fin 31) : (moeRd (F := F) m).amount (xCell c a i) 0 d = Nf a := by
  show Nf (famOf (dS a i)).1 = _; rw [famOf_dS]
theorem expect_bar : (moeRd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_x (a : Fin 4) (j : Fin 31) : (moeRd (F := F) m).expect (xCell c a j.succ) 0 = Nf a := by
  unfold Schedule.expect Schedule.amountOf; rw [duties_x, Finset.sum_singleton, amount_x]
theorem payload_bar (j : Fin 31) : (moeRd (F := F) m).payload (barCell c) 0 j = barPay c j := rfl
theorem payload_x (a : Fin 4) (i : Fin 32) (d : Fin 31) : (moeRd (F := F) m).payload (xCell c a i) 0 d = xPay m c (a, i) := by
  show xPay m c (famOf (dS a i)) = _; rw [famOf_dS]

theorem rest_bar : bigSep ((moeRd (F := F) m).duties (barCell c) 0 \ ∅) (fun d => (moeRd (F := F) m).payload (barCell c) 0 d)
    = bigSep Finset.univ fun j => barPay c j := by
  rw [Finset.sdiff_empty, duties_bar]; rfl
theorem rest_x (a : Fin 4) (j : Fin 31) : bigSep ((moeRd (F := F) m).duties (xCell c a j.succ) 0 \ ∅) (fun d => (moeRd (F := F) m).payload (xCell c a j.succ) 0 d)
    = xPay m c (a, j.succ) := by
  rw [Finset.sdiff_empty, duties_x, bigSep_singleton, payload_x]

theorem xPay0 (j : Fin 31) : xPay m c (0, j.succ) = dispS c (nxt c j) (dispV m c) := by
  show dispS c (up c j.succ) _ = _; rw [up_succ]
theorem xPay1 (j : Fin 31) : xPay m c (1, j.succ) = recvS c (prv c j) (recvV m c) := by
  show recvS c (dn c j.succ) _ = _; rw [dn_succ]
theorem xPay2 (j : Fin 31) : xPay m c (2, j.succ) = retS c (nxt c j) (retV m c) := by
  show retS c (up c j.succ) _ = _; rw [up_succ]
theorem xPay3 (j : Fin 31) : xPay m c (3, j.succ) = retrS c (prv c j) (retrV m c) := by
  show retrS c (dn c j.succ) _ = _; rw [dn_succ]

end Sched

end Cert.MoeProof

end
-- ==== Proof.Loops.lean ====
/-
# What is owed, the levels, and a loop of thirty-one trips

The sums a device still owes before trip `k` of a loop, the levels that order the waits, and the rule for a loop whose
trips each turn one member of a family of resources into another.
-/
module

public import proofs.«01_k».proof.Proof.Sched

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sums and families from trip `k` on -/

/-- The sum of the members from `k` on. -/
def sumFrom {A : Type} [AddCommMonoid A] (f : Fin 31 → A) (k : ℕ) : A := ∑ j : Fin 31, if j.val < k then 0 else f j

theorem sumFrom_step {A : Type} [AddCommMonoid A] (f : Fin 31 → A) (j : Fin 31) : sumFrom f j.val = sumFrom f (j.val + 1) + f j := by
  unfold sumFrom
  rw [← Finset.add_sum_erase _ _ (Finset.mem_univ j), ← Finset.add_sum_erase (a := j) _ (fun i : Fin 31 => if i.val < j.val + 1 then (0 : A) else f i) (Finset.mem_univ j),
    if_neg (Nat.lt_irrefl _), if_pos (Nat.lt_succ_self _), zero_add, add_comm]
  congr 1
  refine Finset.sum_congr rfl fun i hi => ?_
  have hne : i.val ≠ j.val := fun e => (Finset.mem_erase.mp hi).1 (Fin.ext e)
  by_cases h : i.val < j.val
  · rw [if_pos h, if_pos (by omega)]
  · rw [if_neg h, if_neg (by omega)]
theorem sumFrom_end {A : Type} [AddCommMonoid A] (f : Fin 31 → A) : sumFrom f 31 = 0 :=
  Finset.sum_eq_zero fun j _ => if_pos j.isLt
theorem sumFrom_start {A : Type} [AddCommMonoid A] (f : Fin 31 → A) : sumFrom f 0 = ∑ j, f j :=
  Finset.sum_congr rfl fun j _ => if_neg (Nat.not_lt_zero _)

/-- A family of which the members before `k` are done. -/
def famAt (A B : Fin 31 → sProp 𝕄) (k : ℕ) : sProp 𝕄 := bigSep Finset.univ fun j : Fin 31 => if j.val < k then A j else B j

omit [FloatOps F] in
theorem famAt_start (A B : Fin 31 → sProp 𝕄) : famAt A B 0 = bigSep Finset.univ B :=
  bigSep_congr fun j _ => if_neg (Nat.not_lt_zero _)
omit [FloatOps F] in
theorem famAt_end (A B : Fin 31 → sProp 𝕄) : famAt A B 31 = bigSep Finset.univ A :=
  bigSep_congr fun j _ => if_pos j.isLt
omit [FloatOps F] in
theorem famAt_here (A B : Fin 31 → sProp 𝕄) (j : Fin 31) :
    famAt A B j.val = iprop(B j ∗ bigSep (Finset.univ.erase j) fun i : Fin 31 => if i.val < j.val then A i else B i) := by
  unfold famAt; rw [bigSep_erase (Finset.mem_univ j), if_neg (Nat.lt_irrefl _)]; rfl
omit [FloatOps F] in
theorem famAt_next (A B : Fin 31 → sProp 𝕄) (j : Fin 31) :
    famAt A B (j.val + 1) = iprop(A j ∗ bigSep (Finset.univ.erase j) fun i : Fin 31 => if i.val < j.val then A i else B i) := by
  unfold famAt
  rw [bigSep_erase (Finset.mem_univ j), if_pos (Nat.lt_succ_self _)]
  congr 1
  refine bigSep_congr fun i hi => ?_
  have hne : i.val ≠ j.val := fun e => (Finset.mem_erase.mp hi).1 (Fin.ext e)
  by_cases h : i.val < j.val
  · rw [if_pos h, if_pos (by omega)]
  · rw [if_neg h, if_neg (by omega)]

/-! ## What is owed -/

/-- The barrier units and the family's credits that `c` still owes before trip `k`. -/
def OB (c : Dev nD) (k : ℕ) : CellTallies nD τ sig Unit := sumFrom (fun j => tallyAt (barCell (nxt c j)) () 1) k
def OX (c : Dev nD) (a : Fin 4) (k : ℕ) : CellTallies nD τ sig Unit := sumFrom (fun j => tallyAt (xCell (nxt c j) a j.succ) () (Nf a)) k
def O₀ (c : Dev nD) : CellTallies nD τ sig Unit := (OX c 3 0 + OX c 1 0) + OB c 0

def L (g : GSem nD τ sig) : Finset Unit := if g.1.2 = .tc then {()} else ∅
/-- Barrier cells at 1, cells of tokens coming in at 2, of results coming in at 3, all others at 0. -/
def lv (g : GSem nD τ sig) (_ : Unit) : ℕ := match g.2 with
  | .reg _ => 1
  | .dma q => if 5 ≤ q.val then (if (famOf q).1 = 1 then 2 else if (famOf q).1 = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u) : lv (barCell c) u = 1 := rfl
theorem lv_x (c : Dev nD) (a : Fin 4) (i : Fin 32) (u) : lv (xCell c a i) u = if a = 1 then 2 else if a = 3 then 3 else 0 := by
  show (if 5 ≤ (dS a i).val then _ else _) = _
  rw [if_pos (by simp only [dS]; omega), famOf_dS]

theorem sumFrom_pos {f : Fin 31 → CellTallies nD τ sig Unit} {k : ℕ} {g : GSem nD τ sig} {u : Unit} (h : 0 < sumFrom f k g u) :
    ∃ j, 0 < f j g u := by
  unfold sumFrom at h
  by_contra hn
  push Not at hn
  rw [Finset.sum_apply, Finsupp.finset_sum_apply] at h
  rw [Finset.sum_eq_zero] at h
  · exact Nat.lt_irrefl _ h
  · intro j _
    split
    · rfl
    · exact Nat.le_zero.mp (hn j)

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl _ h

theorem OB_pos {c : Dev nD} {k : ℕ} {g : GSem nD τ sig} {u : Unit} (h : 0 < OB c k g u) : ∃ j, g = barCell (nxt c j) := by
  obtain ⟨j, hj⟩ := sumFrom_pos h; exact ⟨j, tallyAt_pos hj⟩
theorem OX_pos {c : Dev nD} {a : Fin 4} {k : ℕ} {g : GSem nD τ sig} {u : Unit} (h : 0 < OX c a k g u) : ∃ j, g = xCell (nxt c j) a j.succ := by
  obtain ⟨j, hj⟩ := sumFrom_pos h; exact ⟨j, tallyAt_pos hj⟩

omit [FloatOps F] in
/-- A wait is allowed when its cell lies at or below level `n` and all that is owed lies above. -/
theorem mayWait_below (c : Dev nD) (sm : SemLoc sig) (O : CellTallies nD τ sig Unit) (n : ℕ) (hsm : lv ((c : Thread nD τ), sm) () ≤ n)
    (hO : ∀ g u, 0 < O g u → (∃ d : Dev nD, g.1 = (d : Thread nD τ)) ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨d, hd⟩, -⟩ := hO g u hg
      obtain ⟨t, s⟩ := g
      obtain rfl : t = (d : Thread nD τ) := hd
      rw [L_tc]; exact Finset.mem_singleton_self _)
    (fun p hp => by rw [Finset.mem_singleton.mp hp]; exact hsm)
    (fun g u hg => (hO g u hg).2)

theorem O₀_pos {c : Dev nD} {g : GSem nD τ sig} {u : Unit} (h : 0 < O₀ c g u) :
    (∃ d : Dev nD, g.1 = (d : Thread nD τ)) ∧ 0 < lv g () := by
  unfold O₀ at h
  rw [Pi.add_apply, Finsupp.add_apply, Pi.add_apply, Finsupp.add_apply] at h
  by_cases h1 : 0 < OX c 3 0 g u
  · obtain ⟨j, rfl⟩ := OX_pos h1; exact ⟨⟨_, rfl⟩, by rw [lv_x]; decide⟩
  by_cases h2 : 0 < OX c 1 0 g u
  · obtain ⟨j, rfl⟩ := OX_pos h2; exact ⟨⟨_, rfl⟩, by rw [lv_x]; decide⟩
  obtain ⟨j, rfl⟩ := OB_pos (c := c) (k := 0) (g := g) (u := u) (by omega)
  exact ⟨⟨_, rfl⟩, by rw [lv_bar]; decide⟩

omit [FloatOps F] in
theorem mayWait_bar (c : Dev nD) : (levAts L lv : sProp 𝕄) ⊢ MayWait (c : Thread nD τ) (.reg barS) () (OX c 3 0 + OX c 1 0) :=
  mayWait_below c _ _ 1 (le_of_eq (lv_bar c ())) fun g u h => by
    rw [Pi.add_apply, Finsupp.add_apply] at h
    by_cases h1 : 0 < OX c 3 0 g u
    · obtain ⟨j, rfl⟩ := OX_pos h1; exact ⟨⟨_, rfl⟩, by rw [lv_x]; decide⟩
    obtain ⟨j, rfl⟩ := OX_pos (c := c) (a := 1) (k := 0) (g := g) (u := u) (by omega)
    exact ⟨⟨_, rfl⟩, by rw [lv_x]; decide⟩

omit [FloatOps F] in
theorem mayWait_in (c : Dev nD) (j : Fin 31) : (levAts L lv : sProp 𝕄) ⊢ MayWait (c : Thread nD τ) (.dma (dS 1 j.succ)) () (OX c 3 0) :=
  mayWait_below c _ _ 2 (le_of_eq (by exact (lv_x c 1 j.succ ()).trans (by decide))) fun g u h => by
    obtain ⟨j, rfl⟩ := OX_pos h; exact ⟨⟨_, rfl⟩, by rw [lv_x]; decide⟩

/-! ## The loop rule -/

abbrev 𝒱₀ : Variants := Variants.none

omit [FloatOps F] in
/-- A loop of thirty-one trips, the trip `j` turning `B j` into `A j` while the amount owed goes from `O j` to `O (j + 1)`. -/
theorem wp_loop31 [FloatOps F] (l : Scf.Loop 32) (hok : l.OK) (ht : l.trips = 31) (c : Dev nD)
    (body : Fin l.trips → Unit → Prog (TpuEff nD τ sig (Elt F) Λ₀ .tc) Unit)
    (R : sProp 𝕄) [BI.Persistent R] (A B : Fin 31 → sProp 𝕄) (O : ℕ → CellTallies nD τ sig Unit)
    (hbody : ∀ (t : Fin l.trips) (W : Waits sig Unit), iprop(R ∗ B (t.cast ht) ∗ owes (c : Thread nD τ) (O t.val) W)
      ⊢ wp frame (wpE (defs₀ (F := F)) 𝒱₀ (c : Thread nD τ) none) Set.univ (body t ⟨⟩) (fun _ => iprop(A (t.cast ht) ∗ ∃ W, owes (c : Thread nD τ) (O (t.val + 1)) W)))
    {α : Type} {kk : Unit → Prog (TpuEff nD τ sig (Elt F) Λ₀ .tc) α} {Q : α → sProp 𝕄} :
    iprop(R ∗ bigSep Finset.univ B ∗ ∃ W, owes (c : Thread nD τ) (O 0) W)
      ⊢ iprop(((bigSep Finset.univ A ∗ ∃ W, owes (c : Thread nD τ) (O 31) W) -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  iintro ⟨#HR, HB, HO⟩ HK
  iapply (Scf.wp_for_bind frame (wpE (defs₀ (F := F)) 𝒱₀ (c : Thread nD τ) none) Set.univ l.lb l.ub l.st hok ⟨⟩ body
    (fun k _ => iprop(famAt A B k ∗ R ∗ ∃ W, owes (c : Thread nD τ) (O k) W)) (fun t acc => by
      rw [show t.val = (t.cast ht).val from rfl, famAt_here, famAt_next]
      iintro ⟨⟨HB, Hrest⟩, #HR, %W, HO⟩
      iapply (wp_wand_r frame (wpE (defs₀ (F := F)) 𝒱₀ (c : Thread nD τ) none) Set.univ)
      isplitl [HB HO]
      · iapply (hbody t W)
        isplitr; · iexact HR
        isplitl [HB]; · iexact HB
        iexact HO
      · iintro %acc' ⟨HA, HO⟩
        isplitl [HA Hrest]
        · isplitl [HA] <;> iassumption
        isplitr; · iexact HR
        iexact HO)) $$ [HB HO]
  · isplitl [HB]; · rw [famAt_start]; iexact HB
    isplitr; · iexact HR
    iexact HO
  iintro %acc ⟨HA, -, HO⟩
  iapply HK
  isplitl [HA]
  · iapply (Entails.of_eq ((congrArg (famAt A B) ht).trans (famAt_end A B))); iexact HA
  · iapply (Entails.of_eq (congrArg (fun k => iprop(∃ W, owes (c : Thread nD τ) (O k) W)) ht)); iexact HO

end Cert.MoeProof

end
-- ==== Proof.Trips.lean ====
/-
# One trip of each loop

The signal of a barrier trip, the two kinds of remote copy, and the waits, each stated for the program's own memrefs and
semaphores at a symbolic device and trip.
-/
module

public import proofs.«01_k».proof.Proof.Loops

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option (Fin 4 × Fin 32) → ℕ)

/-- The invariant of every cell, and that every cell has reached its round. -/
def recs : sProp 𝕄 :=
  iprop((bigSep Finset.univ fun ck : Dev nD × Option (Fin 4 × Fin 32) => cellInv ER (moeRd m) (K ck) (kcell ck))
    ∗ bigSep Finset.univ fun ck : Dev nD × Option (Fin 4 × Fin 32) => reached ER (kcell ck) 0)

instance recs_persistent : BI.Persistent (recs m K) := by unfold recs; infer_instance

theorem recs_inv : recs m K ⊢ bigSep Finset.univ fun ck : Dev nD × Option (Fin 4 × Fin 32) => cellInv ER (moeRd m) (K ck) (kcell ck) := by
  unfold recs; iintro ⟨H, -⟩; iexact H
theorem recs_reached : recs m K ⊢ bigSep Finset.univ fun ck : Dev nD × Option (Fin 4 × Fin 32) => reached ER (kcell ck) 0 := by
  unfold recs; iintro ⟨-, H⟩; iexact H
theorem inv_at (ck : Dev nD × Option (Fin 4 × Fin 32)) : recs m K ⊢ cellInv ER (moeRd m) (K ck) (kcell ck) :=
  (recs_inv m K).trans (bigSep_elim (Finset.mem_univ ck))
theorem reached_at (ck : Dev nD × Option (Fin 4 × Fin 32)) : recs m K ⊢ reached ER (kcell ck) 0 :=
  (recs_reached m K).trans (bigSep_elim (Finset.mem_univ ck))

omit [FloatOps F] in
theorem OB_step (c : Dev nD) (j : Fin 31) (O : CellTallies nD τ sig Unit) :
    O + OB c j.val = (O + OB c (j.val + 1)) + tallyAt (barCell (nxt c j)) () 1 := by
  unfold OB; rw [sumFrom_step _ j, add_assoc]
theorem OX_step (c : Dev nD) (a : Fin 4) (j : Fin 31) : OX c a j.val = OX c a (j.val + 1) + tallyAt (xCell (nxt c j) a j.succ) () (Nf a) := by
  unfold OX; rw [sumFrom_step _ j]

/-! ## The barrier signal -/

/-- What trip `j` of the barrier loop hands over. -/
def sigPre (c : Dev nD) (j : Fin 31) : sProp 𝕄 :=
  iprop(dutyTok ER (barCell (nxt c j)) 0 j ∗ (∃ f, recvS c (nxt c j) f) ∗ ∃ f, retrS c (nxt c j) f)

theorem trip1 (c : Dev nD) (j : Fin 31) (n : Dev nD) (hn : n = nxt c j) (W : Waits sig Unit) :
    iprop(recs m K ∗ sigPre c j ∗ owes (c : Thread nD τ) ((OX c 3 0 + OX c 1 0) + OB c j.val) W)
      ⊢ wp frame (wpE (defs₀ (F := F)) 𝒱₀ (c : Thread nD τ) none) Set.univ
          (do semSignalWord n barS 1#32; pure ⟨⟩ : Prog (TpuEff nD τ sig (Elt F) Λ₀ .tc) Unit)
          (fun _ => iprop(emp ∗ ∃ W, owes (c : Thread nD τ) ((OX c 3 0 + OX c 1 0) + OB c (j.val + 1)) W)) := by
  subst hn
  simp only [semSignalWord, Prog.lift, Prog.bind_op, Prog.bind_ret, Prog.pure_eq_ret]
  unfold sigPre
  iintro ⟨#HR, ⟨Htok, Hrv, Hrr⟩, HO⟩
  iapply (Rounds.wp_signal 𝒱₀ ER (moeRd (F := F) m) (c : Thread nD τ) none (dst := (nxt c j : Thread nD τ)) (κ := K (nxt c j, none))
      (d := j) (by rw [duties_bar]; exact Finset.mem_univ _) ((amount_bar m (nxt c j) j).trans (by decide)) () ((OX c 3 0 + OX c 1 0) + OB c (j.val + 1))
      (OB_step c j (OX c 3 0 + OX c 1 0))) $$ [HO Htok Hrv Hrr]
  · isplitr; · iapply (inv_at m K (nxt c j, none)); iexact HR
    isplitl [HO]; · iexact HO
    isplitl [Htok]; · iexact Htok
    isplitl [Hrv Hrr]
    · rw [payload_bar]; unfold barPay; rw [prv_nxt]
      isplitl [Hrv]; · iexact Hrv
      iexact Hrr
    · iapply (reached_at m K (nxt c j, none)); iexact HR
  iintro HO
  rw [wp_ret]; imodintro
  isplitr; · iempintro
  iexists W; iexact HO

/-! ## The copies -/

/-- The squeezed slot memrefs the transfers name, at any offsets. -/
abbrev dispM (off : Fin 3 → ℕ) (inb : ∀ a, off a + S1x192x256.size a ≤ Sa.size a) : Memref sig .tc .vmem S192x256 .bf16 :=
  ((Memref.whole cc0_scratch0 : Memref sig .tc .vmem Sa .bf16).slice (Rect.unit (s := Sa) off S1x192x256.size inb) (fun _ => rfl)).squeeze S192x256 squeezes_S1x192x256_S192x256
abbrev recvM (off : Fin 3 → ℕ) (inb : ∀ a, off a + S1x192x256.size a ≤ Sa.size a) : Memref sig .tc .vmem S192x256 .bf16 :=
  ((Memref.whole cc0_scratch1 : Memref sig .tc .vmem Sa .bf16).slice (Rect.unit (s := Sa) off S1x192x256.size inb) (fun _ => rfl)).squeeze S192x256 squeezes_S1x192x256_S192x256
abbrev retM (off : Fin 3 → ℕ) (inb : ∀ a, off a + S1x192x512.size a ≤ Sb.size a) : Memref sig .tc .vmem S192x512 .bf16 :=
  ((Memref.whole cc0_scratch2 : Memref sig .tc .vmem Sb .bf16).slice (Rect.unit (s := Sb) off S1x192x512.size inb) (fun _ => rfl)).squeeze S192x512 squeezes_S1x192x512_S192x512
abbrev retrM (off : Fin 3 → ℕ) (inb : ∀ a, off a + S1x192x512.size a ≤ Sb.size a) : Memref sig .tc .vmem S192x512 .bf16 :=
  ((Memref.whole cc0_scratch3 : Memref sig .tc .vmem Sb .bf16).slice (Rect.unit (s := Sb) off S1x192x512.size inb) (fun _ => rfl)).squeeze S192x512 squeezes_S1x192x512_S192x512

theorem rectA (off : Fin 3 → ℕ) (s : ℕ) (h : off = ![s, 0, 0]) (inb) :
    (Rect.unit (s := Sa) off S1x192x256.size inb).set = slotOf Sa (0 : Fin 3) s := by
  subst h
  refine rect_slot Sa (0 : Fin 3) _ _ inb rfl fun a ha => ?_
  fin_cases a
  · exact absurd rfl ha
  · exact ⟨rfl, rfl⟩
  · exact ⟨rfl, rfl⟩
theorem rectB (off : Fin 3 → ℕ) (s : ℕ) (h : off = ![s, 0, 0]) (inb) :
    (Rect.unit (s := Sb) off S1x192x512.size inb).set = slotOf Sb (0 : Fin 3) s := by
  subst h
  refine rect_slot Sb (0 : Fin 3) _ _ inb rfl fun a ha => ?_
  fin_cases a
  · exact absurd rfl ha
  · exact ⟨rfl, rfl⟩
  · exact ⟨rfl, rfl⟩

theorem dispM_set (off) (s : ℕ) (h : off = ![s, 0, 0]) (inb) : (dispM off inb).view.set = slotOf Sa (0 : Fin 3) s := (slot_set cc0_scratch0 off _ inb _ _ _).trans (rectA off s h inb)
theorem recvM_set (off) (s : ℕ) (h : off = ![s, 0, 0]) (inb) : (recvM off inb).view.set = slotOf Sa (0 : Fin 3) s := (slot_set cc0_scratch1 off _ inb _ _ _).trans (rectA off s h inb)
theorem retM_set (off) (s : ℕ) (h : off = ![s, 0, 0]) (inb) : (retM off inb).view.set = slotOf Sb (0 : Fin 3) s := (slot_set cc0_scratch2 off _ inb _ _ _).trans (rectB off s h inb)
theorem retrM_set (off) (s : ℕ) (h : off = ![s, 0, 0]) (inb) : (retrM off inb).view.set = slotOf Sb (0 : Fin 3) s := (slot_set cc0_scratch3 off _ inb _ _ _).trans (rectB off s h inb)

omit [FloatOps F] in
theorem dispM_pts (c : Dev nD) (off) (s : Dev nD) (h : off = ![s.val, 0, 0]) (inb) (f : Vec F Sa .bf16) :
    dispS c s f = ((dispM off inb).view.loc (c : Thread nD τ) ↦[(dispM off inb).view.set]{fullShare} f : sProp 𝕄) := by rw [dispM_set off s.val h inb]; rfl
omit [FloatOps F] in
theorem recvM_pts (c : Dev nD) (off) (s : Dev nD) (h : off = ![s.val, 0, 0]) (inb) (f : Vec F Sa .bf16) :
    recvS c s f = ((recvM off inb).view.loc (c : Thread nD τ) ↦[(recvM off inb).view.set]{fullShare} f : sProp 𝕄) := by rw [recvM_set off s.val h inb]; rfl
omit [FloatOps F] in
theorem retM_pts (c : Dev nD) (off) (s : Dev nD) (h : off = ![s.val, 0, 0]) (inb) (f : Vec F Sb .bf16) :
    retS c s f = ((retM off inb).view.loc (c : Thread nD τ) ↦[(retM off inb).view.set]{fullShare} f : sProp 𝕄) := by rw [retM_set off s.val h inb]; rfl
omit [FloatOps F] in
theorem retrM_pts (c : Dev nD) (off) (s : Dev nD) (h : off = ![s.val, 0, 0]) (inb) (f : Vec F Sb .bf16) :
    retrS c s f = ((retrM off inb).view.loc (c : Thread nD τ) ↦[(retrM off inb).view.set]{fullShare} f : sProp 𝕄) := by rw [retrM_set off s.val h inb]; rfl

/-- The copy of slot `d` of the rows `c` sends, landed in slot `c` of what `d` receives. -/
theorem landedA (c d : Dev nD) (offs offd : Fin 3 → ℕ) (hs : offs = ![d.val, 0, 0]) (hd : offd = ![c.val, 0, 0]) (inbs inbd)
    (fd : Vec F Sa .bf16) :
    ((recvM offd inbd).view.loc (d : Thread nD τ) ↦[(recvM offd inbd).view.set]{fullShare}
        ((recvM offd inbd).view.write (Elt F) fd ((dispM offs inbs).view.read (Elt F) (dispV m c)) Finset.univ) : sProp 𝕄)
      = recvS d c (recvV m d) := by
  subst hs hd
  rw [recvM_pts d _ c rfl inbd]
  refine pointsTo_congr fun i hi => ?_
  obtain ⟨z, -, rfl⟩ := Finset.mem_map.mp hi
  rw [View.write_emb_of_mem _ _ (Finset.mem_univ _)]
  show dispV m c ((dispM _ inbs).view.emb z) = recvV m d ((recvM _ inbd).view.emb z)
  have h0 : ∀ k : Fin 1, k.val = 0 := fun k => by omega
  have e0 : ((recvM _ inbd).view.emb z (0 : Fin 3)).val = c.val := by
    refine (slot_emb_val cc0_scratch1 _ _ inbd _ _ _ z (0 : Fin 3)).trans ?_
    exact congrArg (c.val + ·) (h0 _)
  unfold recvV
  rw [show (⟨((recvM _ inbd).view.emb z (0 : Fin 3)).val, ((recvM _ inbd).view.emb z (0 : Fin 3)).isLt⟩ : Dev nD) = c from Fin.ext e0]
  refine congrArg (dispV m c) (funext fun a => Fin.ext ?_)
  refine (slot_emb_val cc0_scratch0 _ _ inbs _ _ _ z a).trans ?_
  unfold inSlot
  split
  · next h => subst h; exact congrArg (d.val + ·) (h0 _)
  · next h =>
    refine Eq.trans ?_ (slot_emb_val cc0_scratch1 _ _ inbd _ _ _ z a).symm
    fin_cases a
    · exact absurd rfl h
    · rfl
    · rfl

theorem landedB (c d : Dev nD) (offs offd : Fin 3 → ℕ) (hs : offs = ![d.val, 0, 0]) (hd : offd = ![c.val, 0, 0]) (inbs inbd)
    (fd : Vec F Sb .bf16) :
    ((retrM offd inbd).view.loc (d : Thread nD τ) ↦[(retrM offd inbd).view.set]{fullShare}
        ((retrM offd inbd).view.write (Elt F) fd ((retM offs inbs).view.read (Elt F) (retV m c)) Finset.univ) : sProp 𝕄)
      = retrS d c (retrV m d) := by
  subst hs hd
  rw [retrM_pts d _ c rfl inbd]
  refine pointsTo_congr fun i hi => ?_
  obtain ⟨z, -, rfl⟩ := Finset.mem_map.mp hi
  rw [View.write_emb_of_mem _ _ (Finset.mem_univ _)]
  show retV m c ((retM _ inbs).view.emb z) = retrV m d ((retrM _ inbd).view.emb z)
  have h0 : ∀ k : Fin 1, k.val = 0 := fun k => by omega
  have e0 : ((retrM _ inbd).view.emb z (0 : Fin 3)).val = c.val := by
    refine (slot_emb_val cc0_scratch3 _ _ inbd _ _ _ z (0 : Fin 3)).trans ?_
    exact congrArg (c.val + ·) (h0 _)
  unfold retrV
  rw [show (⟨((retrM _ inbd).view.emb z (0 : Fin 3)).val, ((retrM _ inbd).view.emb z (0 : Fin 3)).isLt⟩ : Dev nD) = c from Fin.ext e0]
  refine congrArg (retV m c) (funext fun a => Fin.ext ?_)
  refine (slot_emb_val cc0_scratch2 _ _ inbs _ _ _ z a).trans ?_
  unfold inSlot
  split
  · next h => subst h; exact congrArg (d.val + ·) (h0 _)
  · next h =>
    refine Eq.trans ?_ (slot_emb_val cc0_scratch3 _ _ inbd _ _ _ z a).symm
    fin_cases a
    · exact absurd rfl h
    · rfl
    · rfl

/-- What trip `j` of the loop sending token rows takes; -/
def sendPreA (c : Dev nD) (j : Fin 31) : sProp 𝕄 :=
  iprop(dutyTok ER (xCell c 0 j.succ) 0 0 ∗ dutyTok ER (xCell (nxt c j) 1 j.succ) 0 0 ∗ dispS c (nxt c j) (dispV m c) ∗ ∃ f, recvS (nxt c j) c f)
/-- and of the loop sending results. -/
def sendPreB (c : Dev nD) (j : Fin 31) : sProp 𝕄 :=
  iprop(dutyTok ER (xCell c 2 j.succ) 0 0 ∗ dutyTok ER (xCell (nxt c j) 3 j.succ) 0 0 ∗ retS c (nxt c j) (retV m c) ∗ ∃ f, retrS (nxt c j) c f)

/-- A transfer on trip `j`: send cell `a` of this device, receive cell `b` of the other, for any memrefs whose contents are the cells' payloads. -/
theorem send_x (c : Dev nD) (j : Fin 31) (a b : Fin 4) (n : Dev nD) (hn : n = nxt c j) {S : Shape} (src dst : Memref sig .tc .vmem S .bf16)
    (qS qR : DmaSem sig) (hqS : qS = dS a j.succ) (hqR : qR = dS b j.succ) (hN : dst.view.amount (.dma qR) = Nf b) (hab : Nf a = Nf b)
    (fs : src.view.ty.Contents (Elt F)) (fd : dst.view.ty.Contents (Elt F))
    (h₁ : (src.view.loc (c : Thread nD τ) ↦[src.view.set]{fullShare} fs : sProp 𝕄) ⊢ xPay m c (a, j.succ))
    (h₂ : (dst.view.loc (nxt c j : Thread nD τ) ↦[dst.view.set]{fullShare} (dst.view.write (Elt F) fd (src.view.read (Elt F) fs) Finset.univ) : sProp 𝕄)
      ⊢ xPay m (nxt c j) (b, j.succ))
    {hsc : dst.view.ref.isScScratch = false} {hsrc : src.view.WordExact} {hdst : dst.view.WordExact}
    {hsem : DmaTarget.Typed .vmem (.dma qR) (.remote (Dev.tc n : Thread nD τ) dst (.dma qS) hsc)} (W : Waits sig Unit)
    (O O' : CellTallies nD τ sig Unit) (hO : O = O' + tallyAt (xCell (nxt c j) b j.succ) () (Nf b)) :
    iprop(recs m K ∗ (dutyTok ER (xCell c a j.succ) 0 0 ∗ dutyTok ER (xCell (nxt c j) b j.succ) 0 0
        ∗ (src.view.loc (c : Thread nD τ) ↦[src.view.set]{fullShare} fs) ∗ (dst.view.loc (nxt c j : Thread nD τ) ↦[dst.view.set]{fullShare} fd))
        ∗ owes (c : Thread nD τ) O W)
      ⊢ wp frame (wpE (defs₀ (F := F)) 𝒱₀ (c : Thread nD τ) none) Set.univ
          (do Prog.lift (.enqueueDma src (.remote (Dev.tc n : Thread nD τ) dst (.dma qS) hsc) (.dma qR) hsrc hdst hsem); pure ⟨⟩
            : Prog (TpuEff nD τ sig (Elt F) Λ₀ .tc) Unit)
          (fun _ => iprop(cred (tallyAt (xCell c a j.succ) () (Nf a)) ∗ ∃ W, owes (c : Thread nD τ) O' W)) := by
  subst hn hqS hqR
  simp only [Prog.lift, Prog.bind_op, Prog.bind_ret, Prog.pure_eq_ret]
  iintro ⟨#HR, ⟨HtS, HtR, Hsrc, Hdst⟩, HO⟩
  iapply (Rounds.wp_send_pointsTo 𝒱₀ ER (moeRd m) (c : Thread nD τ) none (κ₁ := K (c, some (a, j.succ))) (κ₂ := K (nxt c j, some (b, j.succ)))
    (r₁ := 0) (r₂ := 0) (d₁ := 0) (d₂ := 0) (fd := fd)
    (by rw [duties_x]; exact Finset.mem_singleton_self _) (by rw [duties_x]; exact Finset.mem_singleton_self _)
    () () (Nf b) hN ((amount_x m c a j.succ 0).trans hab) (amount_x m (nxt c j) b j.succ 0) O' hO (W := W)
    (by rw [payload_x]; exact h₁) (by rw [payload_x]; exact h₂)) $$ [HO HtS HtR Hsrc Hdst]
  · isplitr; · iapply (inv_at m K (c, some (a, j.succ))); iexact HR
    isplitr; · iapply (inv_at m K (nxt c j, some (b, j.succ))); iexact HR
    isplitl [Hsrc]; · iexact Hsrc
    isplitl [Hdst]; · iexact Hdst
    isplitl [HO]; · iexact HO
    isplitl [HtS]; · iexact HtS
    isplitr; · iapply (reached_at m K (c, some (a, j.succ))); iexact HR
    isplitl [HtR]; · iexact HtR
    iapply (reached_at m K (nxt c j, some (b, j.succ))); iexact HR
  rw [hab]
  iintro ⟨Hc, HO⟩
  rw [wp_ret]; imodintro
  isplitl [Hc]; · iexact Hc
  iexists W; iexact HO

theorem trip2 (c : Dev nD) (j : Fin 31) (n : Dev nD) (hn : n = nxt c j) (offs offd : Fin 3 → ℕ) (hs : offs = ![(nxt c j).val, 0, 0]) (hd : offd = ![c.val, 0, 0]) (inbs inbd)
    (qS qR : DmaSem sig) (hqS : qS = dS 0 j.succ) (hqR : qR = dS 1 j.succ)
    {hsc : (recvM offd inbd).view.ref.isScScratch = false} {hsrc : (dispM offs inbs).view.WordExact} {hdst : (recvM offd inbd).view.WordExact}
    {hsem : DmaTarget.Typed .vmem (.dma qR) (.remote (Dev.tc n : Thread nD τ) (recvM offd inbd) (.dma qS) hsc)} (W : Waits sig Unit) :
    iprop(recs m K ∗ sendPreA m c j ∗ owes (c : Thread nD τ) (OX c 3 0 + OX c 1 j.val) W)
      ⊢ wp frame (wpE (defs₀ (F := F)) 𝒱₀ (c : Thread nD τ) none) Set.univ
          (do Prog.lift (.enqueueDma (dispM offs inbs) (.remote (Dev.tc n : Thread nD τ) (recvM offd inbd) (.dma qS) hsc) (.dma qR) hsrc hdst hsem); pure ⟨⟩
            : Prog (TpuEff nD τ sig (Elt F) Λ₀ .tc) Unit)
          (fun _ => iprop(cred (tallyAt (xCell c 0 j.succ) () (Nf 0)) ∗ ∃ W, owes (c : Thread nD τ) (OX c 3 0 + OX c 1 (j.val + 1)) W)) := by
  unfold sendPreA
  iintro ⟨#HR, ⟨HtS, HtR, Hsrc, %fd, Hdst⟩, HO⟩
  ihave Hsrc := (Entails.of_eq (dispM_pts c offs (nxt c j) hs inbs (dispV m c))) $$ Hsrc
  ihave Hdst := (Entails.of_eq (recvM_pts (nxt c j) offd c hd inbd fd)) $$ Hdst
  iapply (send_x m K c j 0 1 n hn (dispM offs inbs) (recvM offd inbd) qS qR hqS hqR rfl rfl (dispV m c) fd
    (by rw [xPay0, dispM_pts c offs (nxt c j) hs inbs]) (by rw [xPay1, prv_nxt, ← landedA m c (nxt c j) offs offd hs hd inbs inbd fd]) W _ _
    ((congrArg (OX c 3 0 + ·) (OX_step c 1 j)).trans (add_assoc _ _ _).symm))
  isplitr; · iexact HR
  isplitr [HO]
  · isplitl [HtS]; · iexact HtS
    isplitl [HtR]; · iexact HtR
    isplitl [Hsrc]; · iexact Hsrc
    iexact Hdst
  iexact HO

theorem trip4 (c : Dev nD) (j : Fin 31) (n : Dev nD) (hn : n = nxt c j) (offs offd : Fin 3 → ℕ) (hs : offs = ![(nxt c j).val, 0, 0]) (hd : offd = ![c.val, 0, 0]) (inbs inbd)
    (qS qR : DmaSem sig) (hqS : qS = dS 2 j.succ) (hqR : qR = dS 3 j.succ)
    {hsc : (retrM offd inbd).view.ref.isScScratch = false} {hsrc : (retM offs inbs).view.WordExact} {hdst : (retrM offd inbd).view.WordExact}
    {hsem : DmaTarget.Typed .vmem (.dma qR) (.remote (Dev.tc n : Thread nD τ) (retrM offd inbd) (.dma qS) hsc)} (W : Waits sig Unit) :
    iprop(recs m K ∗ sendPreB m c j ∗ owes (c : Thread nD τ) (OX c 3 j.val) W)
      ⊢ wp frame (wpE (defs₀ (F := F)) 𝒱₀ (c : Thread nD τ) none) Set.univ
          (do Prog.lift (.enqueueDma (retM offs inbs) (.remote (Dev.tc n : Thread nD τ) (retrM offd inbd) (.dma qS) hsc) (.dma qR) hsrc hdst hsem); pure ⟨⟩
            : Prog (TpuEff nD τ sig (Elt F) Λ₀ .tc) Unit)
          (fun _ => iprop(cred (tallyAt (xCell c 2 j.succ) () (Nf 2)) ∗ ∃ W, owes (c : Thread nD τ) (OX c 3 (j.val + 1)) W)) := by
  unfold sendPreB
  iintro ⟨#HR, ⟨HtS, HtR, Hsrc, %fd, Hdst⟩, HO⟩
  ihave Hsrc := (Entails.of_eq (retM_pts c offs (nxt c j) hs inbs (retV m c))) $$ Hsrc
  ihave Hdst := (Entails.of_eq (retrM_pts (nxt c j) offd c hd inbd fd)) $$ Hdst
  iapply (send_x m K c j 2 3 n hn (retM offs inbs) (retrM offd inbd) qS qR hqS hqR rfl rfl (retV m c) fd
    (by rw [xPay2, retM_pts c offs (nxt c j) hs inbs]) (by rw [xPay3, prv_nxt, ← landedB m c (nxt c j) offs offd hs hd inbs inbd fd]) W _ _
    (OX_step c 3 j))
  isplitr; · iexact HR
  isplitr [HO]
  · isplitl [HtS]; · iexact HtS
    isplitl [HtR]; · iexact HtR
    isplitl [Hsrc]; · iexact Hsrc
    iexact Hdst
  iexact HO

/-! ## The waits -/

/-- What a wait on a transfer cell takes, and what it gives: the landed payload and the cell closed at zero. -/
def waitPre (c : Dev nD) (a : Fin 4) (j : Fin 31) : sProp 𝕄 :=
  iprop(cred (tallyAt (xCell c a j.succ) () (Nf a)) ∗ atPos ER (xCell c a j.succ) 0 ∅ 0)
def waitPost (c : Dev nD) (a : Fin 4) (j : Fin 31) : sProp 𝕄 := iprop(xPay m c (a, j.succ) ∗ semVal (xCell c a j.succ) 0)

/-- A wait on transfer cell `(a, j)`, of any effect that waits for the family's credit. -/
theorem wait_x (c : Dev nD) (a : Fin 4) (j : Fin 31) (q : DmaSem sig) (hq : q = dS a j.succ) {w : TpuEff nD τ sig (Elt F) Λ₀ .tc PUnit} (k' : ℕ) (hk : k' = Nf a)
    (hw : ∀ Kt : PUnit → sProp 𝕄, wpE (defs₀ (F := F)) 𝒱₀ (c : Thread nD τ) none Set.univ w Kt = waitSpec (c : Thread nD τ) Set.univ (.dma q) k' Kt)
    (O : CellTallies nD τ sig Unit) (W : Waits sig Unit) {α : Type} {Q : α → sProp 𝕄} {k : PUnit → Prog (TpuEff nD τ sig (Elt F) Λ₀ .tc) α}
    (hM : (levAts L lv : sProp 𝕄) ⊢ MayWait (c : Thread nD τ) (.dma (dS a j.succ)) () O) :
    iprop((recs m K ∗ levAts L lv) ∗ waitPre c a j ∗ owes (c : Thread nD τ) O W)
      ⊢ iprop(((waitPost m c a j ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hq hk
  unfold waitPre waitPost
  iintro ⟨⟨#HR, #Hlev⟩, ⟨Hc, Hat⟩, HO⟩ Hk
  iapply (Rounds.wp_wait_rest_token 𝒱₀ ER (moeRd m) (c : Thread nD τ) none (κ := K (c, some (a, j.succ)))
      hw (Set.mem_univ _) () (O := O) (W := W) (R := 0) (m := 0) (T := ∅)
      (by rw [Nat.zero_add, expect_x])) $$ [Hc HO Hat]
  · isplitr; · iapply (inv_at m K (c, some (a, j.succ))); iexact HR
    isplitl [Hc]; · iexact Hc
    isplitl [HO]; · iexact HO
    isplitr; · iapply hM; iexact Hlev
    iexact Hat
  iintro ⟨HO, Hat, -, Hpay⟩
  ihave Hpay := (Entails.of_eq (rest_x m c a j)) $$ Hpay
  imod (Rounds.cell_close ER (moeRd m) (Set.mem_univ (K (c, some (a, j.succ)))) (fun h => h) (R := 0 + 1) (duties_later m (xCell c a j.succ))) $$ [Hat] with Hz
  · isplitr; · iapply (inv_at m K (c, some (a, j.succ))); iexact HR
    iexact Hat
  iapply Hk
  isplitl [Hpay Hz]
  · isplitl [Hpay]; · iexact Hpay
    iexact Hz
  iexists _; iexact HO

omit [FloatOps F] in
theorem mayWait_none (c : Dev nD) (sm : SemLoc sig) : (levAts L lv : sProp 𝕄) ⊢ MayWait (c : Thread nD τ) sm () 0 := by
  rw [MayWait_zero]; iintro -; iempintro

end Cert.MoeProof

end
-- ==== Proof.Copies.lean ====
/-
# The local copies and the stores of results

A device's own slot, copied from what it sends to what it receives; and the four stores that fill the results buffer.
-/
module

public import proofs.«01_k».proof.Proof.Trips
public import Idealize.ShloMosaic.Lib.Pipeline.Value

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
/-- The elements of a rectangle of a whole buffer, coordinate by coordinate. -/
theorem rect_emb_val (b : Ref sig .tc) (off size : Fin b.ty.shape.rank → ℕ) (inb)
    (z : (Rect.unit (s := b.ty.shape) off size inb).shape.Idx) (a : Fin b.ty.shape.rank) :
    ((((Memref.whole b).access (Rect.unit (s := b.ty.shape) off size inb) : View sig .tc _ _ _).emb z) a).val = off a + (z a).val := by
  show off a + 1 * _ = _
  rw [Nat.one_mul]

/-- The rectangle of a local copy. -/
abbrev rA (off : Fin 3 → ℕ) (inb : ∀ a, off a + S1x192x256.size a ≤ Sa.size a) : Rect Sa := Rect.unit (s := Sa) off S1x192x256.size inb
abbrev rB (off : Fin 3 → ℕ) (inb : ∀ a, off a + S1x192x512.size a ≤ Sb.size a) : Rect Sb := Rect.unit (s := Sb) off S1x192x512.size inb

/-- The device's own slot, copied: what it sends itself is what it receives of itself. -/
theorem ownA (c : Dev nD) (off : Fin 3 → ℕ) (h : off = ![c.val, 0, 0]) (inb) (f : Vec F Sa .bf16) :
    ((((Memref.whole cc0_scratch1 : Memref sig .tc .vmem Sa .bf16).access (rA off inb)).loc (c : Thread nD τ) ↦[slotOf Sa (0 : Fin 3) c.val]{fullShare}
        ((Memref.whole cc0_scratch1 : Memref sig .tc .vmem Sa .bf16).access (rA off inb)).write (Elt F) f
          (k0_pay22 ((Memref.whole cc0_scratch0 : Memref sig .tc .vmem Sa .bf16).view.readAt (Elt F) (rA off inb).toLoadRect (dispV m c))) Finset.univ) : sProp 𝕄)
      = recvS c c (recvV m c) := by
  refine pointsTo_congr fun i hi => ?_
  rw [← rectA off c.val h inb, ← View.set_slice_whole cc0_scratch1] at hi
  obtain ⟨z, -, rfl⟩ := Finset.mem_map.mp hi
  refine (View.write_emb_of_mem _ _ (Finset.mem_univ z)).trans ?_
  unfold k0_pay22
  rw [shapeCast_self]
  subst h
  have e0 : (((Memref.whole cc0_scratch1 : Memref sig .tc .vmem Sa .bf16).access (rA _ inb)).emb z (0 : Fin 3)).val = c.val :=
    (rect_emb_val cc0_scratch1 _ _ inb z (0 : Fin 3)).trans (congrArg (c.val + ·) (show (z (0 : Fin 3)).val = 0 from Nat.lt_one_iff.mp (z (0 : Fin 3)).isLt))
  show dispV m c (((Memref.whole cc0_scratch0 : Memref sig .tc .vmem Sa .bf16).access (rA _ inb)).emb z) = recvV m c (((Memref.whole cc0_scratch1 : Memref sig .tc .vmem Sa .bf16).access (rA _ inb)).emb z)
  unfold recvV
  rw [show (⟨(((Memref.whole cc0_scratch1 : Memref sig .tc .vmem Sa .bf16).access (rA _ inb)).emb z (0 : Fin 3)).val,
    (((Memref.whole cc0_scratch1 : Memref sig .tc .vmem Sa .bf16).access (rA _ inb)).emb z (0 : Fin 3)).isLt⟩ : Dev nD) = c from Fin.ext e0]
  refine congrArg (dispV m c) (funext fun a => Fin.ext ?_)
  unfold inSlot
  split
  · next h => subst h; exact (rect_emb_val cc0_scratch0 _ _ inb z (0 : Fin 3)).trans ((rect_emb_val cc0_scratch1 _ _ inb z (0 : Fin 3)).symm.trans e0)
  · exact (rect_emb_val cc0_scratch0 _ _ inb z a).trans (rect_emb_val cc0_scratch1 _ _ inb z a).symm

theorem ownB (c : Dev nD) (off : Fin 3 → ℕ) (h : off = ![c.val, 0, 0]) (inb) (f : Vec F Sb .bf16) :
    ((((Memref.whole cc0_scratch3 : Memref sig .tc .vmem Sb .bf16).access (rB off inb)).loc (c : Thread nD τ) ↦[slotOf Sb (0 : Fin 3) c.val]{fullShare}
        ((Memref.whole cc0_scratch3 : Memref sig .tc .vmem Sb .bf16).access (rB off inb)).write (Elt F) f
          (k0_pay29 ((Memref.whole cc0_scratch2 : Memref sig .tc .vmem Sb .bf16).view.readAt (Elt F) (rB off inb).toLoadRect (retV m c))) Finset.univ) : sProp 𝕄)
      = retrS c c (retrV m c) := by
  refine pointsTo_congr fun i hi => ?_
  rw [← rectB off c.val h inb, ← View.set_slice_whole cc0_scratch3] at hi
  obtain ⟨z, -, rfl⟩ := Finset.mem_map.mp hi
  refine (View.write_emb_of_mem _ _ (Finset.mem_univ z)).trans ?_
  unfold k0_pay29
  rw [shapeCast_self]
  subst h
  have e0 : (((Memref.whole cc0_scratch3 : Memref sig .tc .vmem Sb .bf16).access (rB _ inb)).emb z (0 : Fin 3)).val = c.val :=
    (rect_emb_val cc0_scratch3 _ _ inb z (0 : Fin 3)).trans (congrArg (c.val + ·) (show (z (0 : Fin 3)).val = 0 from Nat.lt_one_iff.mp (z (0 : Fin 3)).isLt))
  show retV m c (((Memref.whole cc0_scratch2 : Memref sig .tc .vmem Sb .bf16).access (rB _ inb)).emb z) = retrV m c (((Memref.whole cc0_scratch3 : Memref sig .tc .vmem Sb .bf16).access (rB _ inb)).emb z)
  unfold retrV
  rw [show (⟨(((Memref.whole cc0_scratch3 : Memref sig .tc .vmem Sb .bf16).access (rB _ inb)).emb z (0 : Fin 3)).val,
    (((Memref.whole cc0_scratch3 : Memref sig .tc .vmem Sb .bf16).access (rB _ inb)).emb z (0 : Fin 3)).isLt⟩ : Dev nD) = c from Fin.ext e0]
  refine congrArg (retV m c) (funext fun a => Fin.ext ?_)
  unfold inSlot
  split
  · next h => subst h; exact (rect_emb_val cc0_scratch2 _ _ inb z (0 : Fin 3)).trans ((rect_emb_val cc0_scratch3 _ _ inb z (0 : Fin 3)).symm.trans e0)
  · exact (rect_emb_val cc0_scratch2 _ _ inb z a).trans (rect_emb_val cc0_scratch3 _ _ inb z a).symm

/-! ## The four stores of results -/

/-- The results buffer as the device's four stores leave it. -/
abbrev putPart (off : Fin 3 → ℕ) (inb : ∀ a, off a + S32x48x512.size a ≤ Sb.size a) (f : Vec F Sb .bf16) (w : Vec F S32x48x512 .bf16) : Vec F Sb .bf16 :=
  ((Memref.whole cc0_scratch2 : Memref sig .tc .vmem Sb .bf16).access (Rect.unit (s := Sb) off S32x48x512.size inb)).write (Elt F) f w Finset.univ

omit [FloatOps F] in
theorem putPart_hit (e : ℕ) (off : Fin 3 → ℕ) (h : off = ![0, 48 * e, 0]) (inb) (f : Vec F Sb .bf16) (w : Vec F S32x48x512 .bf16) (i : Sb.Idx)
    (hi : (partOf i).val = e) : putPart off inb f w i = w (inPart i) := by
  subst h
  have e1 : (i (1 : Fin 3)).val / 48 = e := hi
  have hemb : ((Memref.whole cc0_scratch2 : Memref sig .tc .vmem Sb .bf16).access (Rect.unit (s := Sb) _ S32x48x512.size inb)).emb (inPart i) = i := by
    refine funext fun a => Fin.ext ((rect_emb_val cc0_scratch2 _ _ inb (inPart i) a).trans ?_)
    fin_cases a
    · exact Nat.zero_add _
    · show 48 * e + (i (1 : Fin 3)).val % 48 = (i (1 : Fin 3)).val
      omega
    · exact Nat.zero_add _
  have hw := View.write_emb_of_mem (v := (Memref.whole cc0_scratch2 : Memref sig .tc .vmem Sb .bf16).access (Rect.unit (s := Sb) _ S32x48x512.size inb))
    (Val := Elt F) f w (M := Finset.univ) (x := inPart i) (Finset.mem_univ _)
  rw [hemb] at hw
  exact hw

omit [FloatOps F] in
theorem putPart_miss (e : ℕ) (off : Fin 3 → ℕ) (h : off = ![0, 48 * e, 0]) (inb) (f : Vec F Sb .bf16) (w : Vec F S32x48x512 .bf16) (i : Sb.Idx)
    (hi : (partOf i).val ≠ e) : putPart off inb f w i = f i := by
  subst h
  refine View.write_of_not_mem _ _ _ fun hm => hi ?_
  obtain ⟨z, -, rfl⟩ := Finset.mem_map.mp hm
  have e1 := rect_emb_val cc0_scratch2 _ _ inb z (1 : Fin 3)
  have hz : (z (1 : Fin 3)).val < 48 := (z (1 : Fin 3)).isLt
  show (((Memref.whole cc0_scratch2 : Memref sig .tc .vmem Sb .bf16).access (Rect.unit (s := Sb) _ S32x48x512.size inb)).emb z (1 : Fin 3)).val / 48 = e
  rw [e1]
  show (48 * e + (z (1 : Fin 3)).val) / 48 = e
  omega

/-- The four stores fill the buffer with the results. -/
theorem ret_stores (c : Dev nD) (f : Vec F Sb .bf16) (i0 i1 i2 i3) :
    putPart ![0, 144, 0] i3 (putPart ![0, 96, 0] i2 (putPart ![0, 48, 0] i1 (putPart ![0, 0, 0] i0 f (k0_pay24 (recvV m c) (es m c))) (k0_pay25 (recvV m c) (es m c)))
      (k0_pay27 (k0_pay26 (recvV m c) (es m c)))) (k0_pay28 (recvV m c) (k0_pay23 (es m c))) = retV m c := by
  funext i
  unfold retV
  rcases hp : partOf i with ⟨p, hlt⟩
  have hv : (partOf i).val = p := by rw [hp]
  obtain rfl | rfl | rfl | rfl : p = 0 ∨ p = 1 ∨ p = 2 ∨ p = 3 := by omega
  · rw [putPart_miss 3 _ rfl _ _ _ _ (by omega), putPart_miss 2 _ rfl _ _ _ _ (by omega), putPart_miss 1 _ rfl _ _ _ _ (by omega), putPart_hit 0 _ rfl _ _ _ _ hv]; rfl
  · rw [putPart_miss 3 _ rfl _ _ _ _ (by omega), putPart_miss 2 _ rfl _ _ _ _ (by omega), putPart_hit 1 _ rfl _ _ _ _ hv]; rfl
  · rw [putPart_miss 3 _ rfl _ _ _ _ (by omega), putPart_hit 2 _ rfl _ _ _ _ hv]; rfl
  · rw [putPart_hit 3 _ rfl _ _ _ _ hv]; rfl

end Cert.MoeProof

end
-- ==== Proof.Bodies.lean ====
/-
# The loops' bodies

Each loop's trip at the program's own operands, from the general trips.
-/
module

public import proofs.«01_k».proof.Proof.Copies

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 4 × Fin 32) → ℕ)

/-! ## The loops' trips, as the program states them -/

/-- The credits of the slots a send waits for. -/
theorem credA (off inb) : (dispM off inb).view.dmaCredit = Nf 0 := rfl
theorem credB (off inb) : (retM off inb).view.dmaCredit = Nf 2 := rfl

theorem loop1 (c : Dev nD) (t : Fin k0_t1_loop.trips) (W : Waits sig Unit) :
    iprop(recs m K ∗ sigPre c (t.cast trips1) ∗ owes (c : Thread nD τ) ((OX c 3 0 + OX c 1 0) + OB c t.val) W)
      ⊢ wp frame (wpE (defs₀ (F := F)) 𝒱₀ (c : Thread nD τ) none) Set.univ
          (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (SemArray.scalar (sig.barrier 0 rfl)) t ⟨⟩)
          (fun _ => iprop(emp ∗ ∃ W, owes (c : Thread nD τ) ((OX c 3 0 + OX c 1 0) + OB c (t.val + 1)) W)) :=
  trip1 m K c (t.cast trips1) _ (dev1_eq c t) W

theorem loop2 (c : Dev nD) (v2 v7 v38 v39 v44 v46 v49 v81 v84) (t : Fin k0_t2_loop.trips) (W : Waits sig Unit) :
    iprop(recs m K ∗ sendPreA m c (t.cast trips2) ∗ owes (c : Thread nD τ) (OX c 3 0 + OX c 1 t.val) W)
      ⊢ wp frame (wpE (defs₀ (F := F)) 𝒱₀ (c : Thread nD τ) none) Set.univ
          (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v7 v38 v39 v44 v46 v49 v81 v84 t ⟨⟩)
          (fun _ => iprop(cred (tallyAt (xCell c 0 (t.cast trips2).succ) () (Nf 0)) ∗ ∃ W, owes (c : Thread nD τ) (OX c 3 0 + OX c 1 (t.val + 1)) W)) := by
  unfold k0_t2_body
  exact trip2 m K c (t.cast trips2) _ (dev2_eq c t) _ _ (k0_off3_eq c t) (k0_off2_eq c) _ _ _ _
    (sems_of_off cc0_scratch4 0 ix4 _ (t.cast trips2).succ (k0_off1_eq t) _) (sems_of_off cc0_scratch5 1 ix5 _ (t.cast trips2).succ (k0_off1_eq t) _) W

theorem loop4 (c : Dev nD) (t : Fin k0_t4_loop.trips) (W : Waits sig Unit) :
    iprop(recs m K ∗ sendPreB m c (t.cast trips4) ∗ owes (c : Thread nD τ) (OX c 3 t.val) W)
      ⊢ wp frame (wpE (defs₀ (F := F)) 𝒱₀ (c : Thread nD τ) none) Set.univ
          (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c t ⟨⟩)
          (fun _ => iprop(cred (tallyAt (xCell c 2 (t.cast trips4).succ) () (Nf 2)) ∗ ∃ W, owes (c : Thread nD τ) (OX c 3 (t.val + 1)) W)) := by
  unfold k0_t4_body
  exact trip4 m K c (t.cast trips4) _ (dev3_eq c t) _ _ (k0_off8_eq c t) (k0_off7_eq c) _ _ _ _
    (sems_of_off cc0_scratch6 2 ix6 _ (t.cast trips4).succ (k0_off6_eq t) _) (sems_of_off cc0_scratch7 3 ix7 _ (t.cast trips4).succ (k0_off6_eq t) _) W

theorem loop3 (c : Dev nD) (v127 v129) (t : Fin k0_t3_loop.trips) (W : Waits sig Unit) :
    iprop((recs m K ∗ levAts L lv) ∗ waitPre c 1 (t.cast trips3) ∗ owes (c : Thread nD τ) (OX c 3 0) W)
      ⊢ wp frame (wpE (defs₀ (F := F)) 𝒱₀ (c : Thread nD τ) none) Set.univ
          (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v127 v129 t ⟨⟩)
          (fun _ => iprop(waitPost m c 1 (t.cast trips3) ∗ ∃ W, owes (c : Thread nD τ) (OX c 3 0) W)) := by
  unfold k0_t3_body
  simp only [Prog.lift, Prog.bind_op, Prog.bind_ret, Prog.pure_eq_ret]
  iintro H
  iapply (wait_x m K c 1 (t.cast trips3) _ (sems_of_off cc0_scratch5 1 ix5 _ (t.cast trips3).succ (k0_off5_eq t) _) _ rfl
    (wpE_waitDma2_eq 𝒱₀ (c : Thread nD τ) none Set.univ) (OX c 3 0) W (mayWait_in c _)) $$ H
  iintro H
  rw [wp_ret]; imodintro; iexact H

theorem loop5 (c : Dev nD) (t : Fin k0_t5_loop.trips) (W : Waits sig Unit) :
    iprop((recs m K ∗ levAts L lv) ∗ waitPre c 3 (t.cast trips5) ∗ owes (c : Thread nD τ) 0 W)
      ⊢ wp frame (wpE (defs₀ (F := F)) 𝒱₀ (c : Thread nD τ) none) Set.univ
          (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 t ⟨⟩)
          (fun _ => iprop(waitPost m c 3 (t.cast trips5) ∗ ∃ W, owes (c : Thread nD τ) 0 W)) := by
  unfold k0_t5_body
  simp only [Prog.lift, Prog.bind_op, Prog.bind_ret, Prog.pure_eq_ret]
  iintro H
  iapply (wait_x m K c 3 (t.cast trips5) _ (sems_of_off cc0_scratch7 3 ix7 _ (t.cast trips5).succ (k0_off10_eq t) _) _ rfl
    (wpE_waitDma2_eq 𝒱₀ (c : Thread nD τ) none Set.univ) 0 W (mayWait_none c _)) $$ H
  iintro H
  rw [wp_ret]; imodintro; iexact H

theorem loop6 (c : Dev nD) (t : Fin k0_t6_loop.trips) (W : Waits sig Unit) :
    iprop((recs m K ∗ levAts L lv) ∗ (waitPre c 0 (t.cast trips6) ∗ waitPre c 2 (t.cast trips6)) ∗ owes (c : Thread nD τ) 0 W)
      ⊢ wp frame (wpE (defs₀ (F := F)) 𝒱₀ (c : Thread nD τ) none) Set.univ
          (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 t ⟨⟩)
          (fun _ => iprop((waitPost m c 0 (t.cast trips6) ∗ waitPost m c 2 (t.cast trips6)) ∗ ∃ W, owes (c : Thread nD τ) 0 W)) := by
  unfold k0_t6_body
  simp only [Prog.lift, Prog.bind_op, Prog.bind_ret, Prog.pure_eq_ret]
  iintro ⟨#HR, ⟨H0, H2⟩, HO⟩
  iapply (wait_x m K c 0 (t.cast trips6) _ (sems_of_off cc0_scratch4 0 ix4 _ (t.cast trips6).succ (k0_off11_eq t) _) _ (credA ![0, 0, 0] inb_S32x192x256_S1x192x256_0_0_0)
    (wpE_waitDma2_eq 𝒱₀ (c : Thread nD τ) none Set.univ) 0 W (mayWait_none c _)) $$ [H0 HO]
  · isplitr; · iexact HR
    isplitl [H0]; · iexact H0
    iexact HO
  iintro ⟨H0, %W', HO⟩
  iapply (wait_x m K c 2 (t.cast trips6) _ (sems_of_off cc0_scratch6 2 ix6 _ (t.cast trips6).succ (k0_off11_eq t) _) _ (credB ![0, 0, 0] inb_S32x192x512_S1x192x512_0_0_0)
    (wpE_waitDma2_eq 𝒱₀ (c : Thread nD τ) none Set.univ) 0 W' (mayWait_none c _)) $$ [H2 HO]
  · isplitr; · iexact HR
    isplitl [H2]; · iexact H2
    iexact HO
  iintro ⟨H2, HO⟩
  rw [wp_ret]; imodintro
  isplitl [H0 H2]
  · isplitl [H0] <;> iassumption
  iexact HO

end Cert.MoeProof

end
-- ==== Proof.Families.lean ====
/-
# The data of the launch, and families of resources

What each device starts with and ends with; and the families of resources that the loops take and give, dealt and gathered.
-/
module

public import proofs.«01_k».proof.Proof.Bodies

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data -/

variable (ρ : Dev nD → PrngReg)

/-- The launch state: the memory `m`, every semaphore counter at zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

variable (K : Dev nD × Option (Fin 4 × Fin 32) → ℕ)

/-- The tokens a device pays with: of the barriers it signals, of its transfers' two ends. -/
def payToks (c : Dev nD) : sProp 𝕄 :=
  iprop((bigSep Finset.univ fun j : Fin 31 => dutyTok ER (barCell (nxt c j)) 0 j)
    ∗ (bigSep Finset.univ fun j : Fin 31 => dutyTok ER (xCell c 0 j.succ) 0 0)
    ∗ (bigSep Finset.univ fun j : Fin 31 => dutyTok ER (xCell (nxt c j) 1 j.succ) 0 0)
    ∗ (bigSep Finset.univ fun j : Fin 31 => dutyTok ER (xCell c 2 j.succ) 0 0)
    ∗ (bigSep Finset.univ fun j : Fin 31 => dutyTok ER (xCell (nxt c j) 3 j.succ) 0 0))

/-- The ghost state a device's body starts from: the records, its own cells' positions, its tokens. -/
def ghost (c : Dev nD) : sProp 𝕄 :=
  iprop(recs m K ∗ (atPos ER (barCell c) 0 ∅ 0 ∗ bigSep Finset.univ fun k : Fin 4 × Fin 32 => atPos ER (xCell c k.1 k.2) 0 ∅ 0) ∗ payToks c)

/-- The credit a device spends at its waits. -/
def creds (c : Dev nD) : sProp 𝕄 :=
  iprop(cred (tallyAt (barCell c) () 31) ∗ (bigSep Finset.univ fun j : Fin 31 => cred (tallyAt (xCell c 1 j.succ) () (Nf 1)))
    ∗ bigSep Finset.univ fun j : Fin 31 => cred (tallyAt (xCell c 3 j.succ) () (Nf 3)))

def start (c : Dev nD) : sProp 𝕄 := iprop((∃ K, ghost m K c) ∗ creds c ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scr c)
/-- After the body: the scratch buffers, and every cell closed at zero. -/
def Φ₁ (c : Dev nD) : sProp 𝕄 :=
  iprop(scr c ∗ semVal (barCell c) 0 ∗ bigSep Finset.univ fun k : Fin 4 × Fin 32 => semVal (xCell c k.1 k.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => ix m c
    | ⟨3, _⟩ => es m c
    | ⟨4, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Families dealt and gathered -/

omit [FloatOps F] in
/-- A family over the thirty-two numbers: the one at zero, and the others by trips. -/
theorem bigSep_fin32 (Φ : Fin 32 → sProp 𝕄) : bigSep Finset.univ Φ = iprop(Φ 0 ∗ bigSep Finset.univ fun j : Fin 31 => Φ j.succ) := by
  have h : (Finset.univ : Finset (Fin 32)) = insert 0 (Finset.univ.map ⟨Fin.succ, Fin.succ_injective 31⟩) := by
    ext i
    constructor
    · intro _
      rcases Fin.eq_zero_or_eq_succ i with rfl | ⟨j, rfl⟩
      · exact Finset.mem_insert_self _ _
      · exact Finset.mem_insert_of_mem (Finset.mem_map.mpr ⟨j, Finset.mem_univ _, rfl⟩)
    · intro _; exact Finset.mem_univ _
  rw [h, bigSep_insert (by
    intro hm; obtain ⟨j, -, e⟩ := Finset.mem_map.mp hm; exact Fin.succ_ne_zero j e), bigSep_map]
  rfl

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A family over the transfer cells: per family the one at zero, and the others by trips. -/
theorem bigSep_cells (Φ : Fin 4 → Fin 32 → sProp 𝕄) : (bigSep Finset.univ fun k : Fin 4 × Fin 32 => Φ k.1 k.2)
    = iprop((Φ 0 0 ∗ bigSep Finset.univ fun j : Fin 31 => Φ 0 j.succ) ∗ (Φ 1 0 ∗ bigSep Finset.univ fun j : Fin 31 => Φ 1 j.succ)
        ∗ (Φ 2 0 ∗ bigSep Finset.univ fun j : Fin 31 => Φ 2 j.succ) ∗ (Φ 3 0 ∗ bigSep Finset.univ fun j : Fin 31 => Φ 3 j.succ)) := by
  rw [bigSep_univ_prod, bigSep_fin4]
  simp only [bigSep_fin32]

omit [FloatOps F] in
theorem sig_one (c : Dev nD) (j : Fin 31) (f : Vec F Sa .bf16) (g : Vec F Sb .bf16) :
    iprop(dutyTok ER (barCell (nxt c j)) 0 j ∗ recvS c (nxt c j) f ∗ retrS c (nxt c j) g) ⊢ (sigPre c j : sProp 𝕄) := by
  unfold sigPre
  iintro ⟨H1, H2, H3⟩
  isplitl [H1]; · iexact H1
  isplitl [H2]; · iexists f; iexact H2
  iexists g; iexact H3
omit [FloatOps F] in
theorem sig_family (c : Dev nD) (f : Vec F Sa .bf16) (g : Vec F Sb .bf16) :
    iprop((bigSep Finset.univ fun j : Fin 31 => dutyTok ER (barCell (nxt c j)) 0 j) ∗ (bigSep Finset.univ fun j : Fin 31 => recvS c (nxt c j) f)
        ∗ (bigSep Finset.univ fun j : Fin 31 => retrS c (nxt c j) g)) ⊢ (bigSep Finset.univ fun j : Fin 31 => sigPre c j : sProp 𝕄) := by
  rw [← bigSep_sep', ← bigSep_sep']
  exact bigSep_mono fun j _ => sig_one c j f g

omit [FloatOps F] in
/-- What the barrier gives: of every other device, the two landing slots kept for this one. -/
theorem bar_family (c : Dev nD) : (bigSep Finset.univ fun j : Fin 31 => barPay (F := F) c j)
    = iprop((bigSep Finset.univ fun j : Fin 31 => iprop(∃ f, recvS (nxt c j) c f)) ∗ bigSep Finset.univ fun j : Fin 31 => iprop(∃ f, retrS (nxt c j) c f)) := by
  rw [bigSep_univ_equiv Fin.revPerm, ← bigSep_sep']
  refine bigSep_congr fun j _ => ?_
  unfold barPay
  rw [show Fin.revPerm j = j.rev from rfl, prv_rev]

theorem sendA_family (c : Dev nD) :
    iprop((bigSep Finset.univ fun j : Fin 31 => dutyTok ER (xCell c 0 j.succ) 0 0) ∗ (bigSep Finset.univ fun j : Fin 31 => dutyTok ER (xCell (nxt c j) 1 j.succ) 0 0)
        ∗ (bigSep Finset.univ fun j : Fin 31 => dispS c (nxt c j) (dispV m c)) ∗ (bigSep Finset.univ fun j : Fin 31 => iprop(∃ f, recvS (nxt c j) c f)))
      ⊢ (bigSep Finset.univ fun j : Fin 31 => sendPreA m c j : sProp 𝕄) := by
  rw [← bigSep_sep', ← bigSep_sep', ← bigSep_sep']
  exact bigSep_mono fun j _ => by unfold sendPreA; exact BI.Entails.refl _

theorem sendB_family (c : Dev nD) :
    iprop((bigSep Finset.univ fun j : Fin 31 => dutyTok ER (xCell c 2 j.succ) 0 0) ∗ (bigSep Finset.univ fun j : Fin 31 => dutyTok ER (xCell (nxt c j) 3 j.succ) 0 0)
        ∗ (bigSep Finset.univ fun j : Fin 31 => retS c (nxt c j) (retV m c)) ∗ (bigSep Finset.univ fun j : Fin 31 => iprop(∃ f, retrS (nxt c j) c f)))
      ⊢ (bigSep Finset.univ fun j : Fin 31 => sendPreB m c j : sProp 𝕄) := by
  rw [← bigSep_sep', ← bigSep_sep', ← bigSep_sep']
  exact bigSep_mono fun j _ => by unfold sendPreB; exact BI.Entails.refl _

omit [FloatOps F] in
theorem wait_family (c : Dev nD) (a : Fin 4) :
    iprop((bigSep Finset.univ fun j : Fin 31 => cred (tallyAt (xCell c a j.succ) () (Nf a))) ∗ (bigSep Finset.univ fun j : Fin 31 => atPos ER (xCell c a j.succ) 0 ∅ 0))
      ⊢ (bigSep Finset.univ fun j : Fin 31 => waitPre c a j : sProp 𝕄) := by
  rw [← bigSep_sep']
  exact bigSep_mono fun j _ => by unfold waitPre; exact BI.Entails.refl _

theorem got_family (c : Dev nD) (a : Fin 4) : (bigSep Finset.univ fun j : Fin 31 => waitPost m c a j : sProp 𝕄)
    = iprop((bigSep Finset.univ fun j : Fin 31 => xPay m c (a, j.succ)) ∗ bigSep Finset.univ fun j : Fin 31 => semVal (xCell c a j.succ) 0) := by
  rw [← bigSep_sep']; rfl

theorem got0 (c : Dev nD) : iprop(dispS c c (dispV m c) ∗ bigSep Finset.univ fun j : Fin 31 => xPay m c (0, j.succ))
    = (((c : Thread nD τ).loc cc0_scratch0) ↦{fullShare} (dispV m c) : sProp 𝕄) := by
  rw [disp_slots, bigSep_dev c, bigSep_congr fun j _ => xPay0 m c j]
theorem got1 (c : Dev nD) : iprop(recvS c c (recvV m c) ∗ bigSep Finset.univ fun j : Fin 31 => xPay m c (1, j.succ))
    = (((c : Thread nD τ).loc cc0_scratch1) ↦{fullShare} (recvV m c) : sProp 𝕄) := by
  rw [recv_slots, bigSep_dev_prv c, bigSep_congr fun j _ => xPay1 m c j]
theorem got2 (c : Dev nD) : iprop(retS c c (retV m c) ∗ bigSep Finset.univ fun j : Fin 31 => xPay m c (2, j.succ))
    = (((c : Thread nD τ).loc cc0_scratch2) ↦{fullShare} (retV m c) : sProp 𝕄) := by
  rw [ret_slots, bigSep_dev c, bigSep_congr fun j _ => xPay2 m c j]
theorem got3 (c : Dev nD) : iprop(retrS c c (retrV m c) ∗ bigSep Finset.univ fun j : Fin 31 => xPay m c (3, j.succ))
    = (((c : Thread nD τ).loc cc0_scratch3) ↦{fullShare} (retrV m c) : sProp 𝕄) := by
  rw [retr_slots, bigSep_dev_prv c, bigSep_congr fun j _ => xPay3 m c j]

/-- A device's own slot's cell of a family, which no transfer uses, closed. -/
theorem close0 (c : Dev nD) (a : Fin 4) : iprop(recs m K ∗ atPos ER (xCell c a 0) 0 ∅ 0) ⊢ (|={Set.univ}=> semVal (xCell c a 0) 0 : sProp 𝕄) := by
  iintro ⟨#HR, Hat⟩
  iapply (Rounds.cell_close ER (moeRd m) (Set.mem_univ (K (c, some (a, 0)))) (fun h => h) (R := 0) (fun r _ => duties_x0 m c a r))
  isplitr; · iapply (inv_at m K (c, some (a, 0))); iexact HR
  iexact Hat

end Cert.MoeProof

end
-- ==== Proof.Body.lean ====
/-
# The body's run

The kernel's body on one device, executed effect by effect and loop by loop.
-/
module

public import proofs.«01_k».proof.Proof.Families

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)
variable (K : Dev nD × Option (Fin 4 × Fin 32) → ℕ)

omit [FloatOps F] in
theorem read_x (f : (cc0_stg0_0 : Ref sig .tc).ty.Contents (Elt F)) :
    (Memref.whole cc0_stg0_0 : Memref sig .tc .vmem S1024x256 .f32).view.readAt (Elt F) (Rect.unit (s := S1024x256) ![0, 0] S1024x256.size inb_S1024x256_S1024x256_0_0).toLoadRect f = f :=
  Memref.readAt_unit_zero (Elt F) cc0_stg0_0 hz2 _ f
omit [FloatOps F] in
theorem read_w (f : (cc0_stg1_0 : Ref sig .tc).ty.Contents (Elt F)) :
    (Memref.whole cc0_stg1_0 : Memref sig .tc .vmem S256x128 .f32).view.readAt (Elt F) (Rect.unit (s := S256x128) ![0, 0] S256x128.size inb_S256x128_S256x128_0_0).toLoadRect f = f :=
  Memref.readAt_unit_zero (Elt F) cc0_stg1_0 hz2 _ f
omit [FloatOps F] in
theorem read_e (f : (cc0_stg3_0 : Ref sig .tc).ty.Contents (Elt F)) :
    (Memref.whole cc0_stg3_0 : Memref sig .tc .vmem S4x256x512 .f32).view.readAt (Elt F) (Rect.unit (s := S4x256x512) ![0, 0, 0] S4x256x512.size inb_S4x256x512_S4x256x512_0_0_0).toLoadRect f = f :=
  Memref.readAt_unit_zero (Elt F) cc0_stg3_0 hz3 _ f
omit [FloatOps F] in
theorem read_recv (f : (cc0_scratch1 : Ref sig .tc).ty.Contents (Elt F)) :
    (Memref.whole cc0_scratch1 : Memref sig .tc .vmem Sa .bf16).view.readAt (Elt F) (Rect.unit (s := S32x192x256) ![0, 0, 0] S32x192x256.size inb_S32x192x256_S32x192x256_0_0_0).toLoadRect f = f :=
  Memref.readAt_unit_zero (Elt F) cc0_scratch1 hz3 _ f
omit [FloatOps F] in
theorem read_retr (f : (cc0_scratch3 : Ref sig .tc).ty.Contents (Elt F)) :
    (Memref.whole cc0_scratch3 : Memref sig .tc .vmem Sb .bf16).view.readAt (Elt F) (Rect.unit (s := S32x192x512) ![0, 0, 0] S32x192x512.size inb_S32x192x512_S32x192x512_0_0_0).toLoadRect f = f :=
  Memref.readAt_unit_zero (Elt F) cc0_scratch3 hz3 _ f
theorem read_a (c : Dev nD) :
    (Memref.whole cc0_stg2_0 : Memref sig .tc .vmem S1024x2 .i32).view.readAt (Elt F) (Rect.unit (s := S1024x2) ![0, 0] S1024x1.size inb_S1024x2_S1024x1_0_0).toLoadRect (ix m c) = ixA m c := rfl
theorem read_b (c : Dev nD) :
    (Memref.whole cc0_stg2_0 : Memref sig .tc .vmem S1024x2 .i32).view.readAt (Elt F) (Rect.unit (s := S1024x2) ![0, 1] S1024x1.size inb_S1024x2_S1024x1_0_1).toLoadRect (ix m c) = ixB m c := rfl
omit [FloatOps F] in
theorem write_disp (f w : (cc0_scratch0 : Ref sig .tc).ty.Contents (Elt F)) :
    ((Memref.whole cc0_scratch0 : Memref sig .tc .vmem Sa .bf16).access (Rect.unit (s := S32x192x256) ![0, 0, 0] S32x192x256.size inb_S32x192x256_S32x192x256_0_0_0)).write (Elt F) f w Finset.univ = w :=
  Memref.write_access_unit_zero_univ (Elt F) cc0_scratch0 hz3 _ f w
omit [FloatOps F] in
theorem write_out (f w : (cc0_stg4_0 : Ref sig .tc).ty.Contents (Elt F)) :
    ((Memref.whole cc0_stg4_0 : Memref sig .tc .vmem S1024x512 .f32).access (Rect.unit (s := S1024x512) ![0, 0] S1024x512.size inb_S1024x512_S1024x512_0_0)).write (Elt F) f w Finset.univ = w :=
  Memref.write_access_unit_zero_univ (Elt F) cc0_stg4_0 hz2 _ f w

omit [FloatOps F] in
theorem fetchAll (w : Fin cfg0.W) (hw : w.val < 4) (t : Fin cfg0.N) : (cfg0.win w).fetch t = true := by
  rw [fin_N t]; revert hw; revert w; decide

/-- A load or a store through an own slot's rectangle touches the slot alone. -/
theorem slot_load (b : Ref sig .tc) (off : Fin b.ty.shape.rank → ℕ) (size) (inb) :
    (Memref.whole b : Memref sig .tc _ _ _).view.setOn (Rect.unit (s := b.ty.shape) off size inb).toLoadRect.set = (Rect.unit (s := b.ty.shape) off size inb).set :=
  (View.set_slice (v := View.whole b) (Rect.unit (s := b.ty.shape) off size inb)).symm.trans (View.set_slice_whole _ _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stgsBefore (c : Dev nD) : sProp 𝕄 :=
  iprop((∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))

def bodyPre (c : Dev nD) : sProp 𝕄 :=
  iprop((ghost m K c ∗ creds c ∗ levAts L lv ∗ scr c) ∗ (dats m ρ 0 c).owesAt () t₀.castSucc ∗ stgsBefore m ρ c)

def bodyPost (c : Dev nD) : sProp 𝕄 :=
  iprop(Φ₁ c ∗ (dats m ρ 0 c).owesAt () t₀.succ ∗ stg c cc0_stg0_0 (xs m c) ∗ stg c cc0_stg1_0 (ws m c) ∗ stg c cc0_stg2_0 (ix m c) ∗ stg c cc0_stg3_0 (es m c) ∗ stg c cc0_stg4_0 (outV m c))

set_option maxHeartbeats 4000000 in
set_option maxRecDepth 8000 in
/-- The body, executed from `bodyPre`, one rule per effect and per loop in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]; unfold k0_part1_skel k0_part2_skel k0_part3_skel k0_part4_skel
  simp only [semWaitWord, Prog.lift, Prog.bind_op, Prog.bind_ret, Prog.pure_eq_ret, bind_assoc, wp_deviceId]
  unfold bodyPre ghost payToks creds scr stgsBefore
  iintro ⟨⟨⟨⟨#HR, ⟨HatB, HatX⟩, ⟨HtB, Ht0, Ht1, Ht2, Ht3⟩⟩, ⟨HcB, Hc1, Hc3⟩, #Hlev, ⟨⟨%fd, Hdisp⟩, ⟨%fv, Hrecv⟩, ⟨%ft, Hret⟩, ⟨%fr, Hretr⟩⟩⟩,
    Ho, ⟨⟨%d0, %g0, %hg0, Hx⟩, ⟨%d1, %g1, %hg1, Hw⟩, ⟨%d2, %g2, %hg2, Hi⟩, ⟨%d3, %g3, %hg3, He⟩, ⟨%d4, %g4, %hg4, Hout⟩⟩⟩, Hk⟩
  have h0 : g0 = xs m c := by rw [hg0]; unfold Dat.before; rw [if_pos (fetchAll 0 (by decide) t₀)]; rfl
  have h1 : g1 = ws m c := by rw [hg1]; unfold Dat.before; rw [if_pos (fetchAll 1 (by decide) t₀)]; rfl
  have h2 : g2 = ix m c := by rw [hg2]; unfold Dat.before; rw [if_pos (fetchAll 2 (by decide) t₀)]; rfl
  have h3 : g3 = es m c := by rw [hg3]; unfold Dat.before; rw [if_pos (fetchAll 3 (by decide) t₀)]; rfl
  subst h0 h1 h2 h3
  unfold Dat.owesAt Pipeline.owesWithin
  icases Ho with ⟨%W, %hW, HO⟩
  rw [show (dats m ρ 0 c).owed t₀.castSucc = O₀ c from rfl]
  -- the landing slots by device
  ihave Hrecv := (Entails.of_eq ((recv_slots c fv).trans (bigSep_dev c _))) $$ Hrecv
  icases Hrecv with ⟨Hrown, Hroth⟩
  ihave Hretr := (Entails.of_eq ((retr_slots c fr).trans (bigSep_dev c _))) $$ Hretr
  icases Hretr with ⟨Hqown, Hqoth⟩
  ihave Hsig := (sig_family (F := F) c fv fr) $$ [HtB Hroth Hqoth]
  · isplitl [HtB]; · iexact HtB
    isplitl [Hroth] <;> iassumption
  -- the barrier: its thirty-one signals,
  iapply (wp_loop31 k0_t1_loop k0_t1_ok trips1 c _ (recs m K) (fun _ => iprop(emp)) (sigPre c) (fun k => (OX c 3 0 + OX c 1 0) + OB c k) (loop1 m K c)) $$ [Hsig HO]
  · isplitr; · iexact HR
    isplitl [Hsig]; · iexact Hsig
    iexists W; iexact HO
  iintro ⟨-, %W1, HO⟩
  rw [show OB c 31 = 0 from sumFrom_end _, add_zero]
  -- and its wait
  iapply (Rounds.wp_wait_rest_token 𝒱₀ ER (moeRd m) (c : Thread nD τ) none (κ := K (c, none))
      (wpE_semWait_eq 𝒱₀ (c : Thread nD τ) none Set.univ) (Set.mem_univ _) () (O := OX c 3 0 + OX c 1 0) (W := W1) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (bar_family c))) $$ Hpay
  icases Hp with ⟨HrN, HqN⟩
  imod (Rounds.cell_close ER (moeRd m) (Set.mem_univ (K (c, none))) (fun h => h) (R := 0 + 1) (duties_later m (barCell c))) $$ [HatB] with HzB
  · isplitr; · iapply (inv_at m K (c, none)); iexact HR
    iexact HatB
  -- the arguments read
  iapply (wp_load 𝒱₀ (c : Thread nD τ) none Set.univ (m := (Memref.whole cc0_stg0_0 : Memref sig .tc .vmem S1024x256 .f32)) (Finset.subset_univ _)) $$ Hx; iintro Hx
  rw [read_x]
  iapply (wp_load 𝒱₀ (c : Thread nD τ) none Set.univ (m := (Memref.whole cc0_stg1_0 : Memref sig .tc .vmem S256x128 .f32)) (Finset.subset_univ _)) $$ Hw; iintro Hw
  rw [read_w]
  iapply (wp_load 𝒱₀ (c : Thread nD τ) none Set.univ (m := (Memref.whole cc0_stg2_0 : Memref sig .tc .vmem S1024x2 .i32)) (Finset.subset_univ _)) $$ Hi; iintro Hi
  rw [read_a]
  iapply (wp_load 𝒱₀ (c : Thread nD τ) none Set.univ (m := (Memref.whole cc0_stg2_0 : Memref sig .tc .vmem S1024x2 .i32)) (Finset.subset_univ _)) $$ Hi; iintro Hi
  rw [read_b]
  -- the token rows written
  iapply (wp_load 𝒱₀ (c : Thread nD τ) none Set.univ (m := (Memref.whole cc0_scratch0 : Memref sig .tc .vmem Sa .bf16)) (Finset.subset_univ _)) $$ Hdisp; iintro Hdisp
  iapply (wp_store 𝒱₀ (c : Thread nD τ) none Set.univ (m := (Memref.whole cc0_scratch0 : Memref sig .tc .vmem Sa .bf16))
    (r := Rect.unit (s := S32x192x256) ![0, 0, 0] S32x192x256.size inb_S32x192x256_S32x192x256_0_0_0) (Mk := Finset.univ) (Finset.subset_univ _)) $$ Hdisp; iintro Hdisp
  rw [write_disp, show k0_pay21 (k0_pay2 (xs m c)) (k0_pay12 (k0_pay4 (F := F) (ixA m c))) (k0_pay13 (k0_pay5 (F := F) (ixB m c))) (k0_pay14 (k0_pay4 (F := F) (ixA m c)) (k0_pay5 (F := F) (ixB m c)))
    (k0_pay15 (k0_pay4 (F := F) (ixA m c)) (k0_pay5 (F := F) (ixB m c))) (k0_pay16 (k0_pay4 (F := F) (ixA m c)) (k0_pay5 (F := F) (ixB m c))) = dispV m c from rfl]
  ihave Hdisp := (Entails.of_eq ((disp_slots c (dispV m c)).trans (bigSep_dev c _))) $$ Hdisp
  icases Hdisp with ⟨Hdown, Hdoth⟩
  -- sent to the other devices
  ihave Hsend := (sendA_family m c) $$ [Ht0 Ht1 Hdoth HrN]
  · isplitl [Ht0]; · iexact Ht0
    isplitl [Ht1]; · iexact Ht1
    isplitl [Hdoth] <;> iassumption
  iapply (wp_loop31 k0_t2_loop k0_t2_ok trips2 c _ (recs m K) (fun j => cred (tallyAt (xCell c 0 j.succ) () (Nf 0))) (sendPreA m c) (fun k => OX c 3 0 + OX c 1 k)
    (loop2 m K c _ _ _ _ _ _ _ _ _)) $$ [Hsend HO]
  · isplitr; · iexact HR
    isplitl [Hsend]; · iexact Hsend
    iexists _; iexact HO
  iintro ⟨Hc0, %W2, HO⟩
  rw [show OX c 1 31 = 0 from sumFrom_end _, add_zero]
  -- the own slot copied
  ihave Hdown := (Entails.of_eq (show dispS c c (dispV m c) = (((c : Thread nD τ).loc cc0_scratch0) ↦[slotOf Sa (0 : Fin 3) c.val]{fullShare} (dispV m c) : sProp 𝕄) from rfl)) $$ Hdown
  ihave Hrown := (Entails.of_eq (show recvS c c fv = (((c : Thread nD τ).loc cc0_scratch1) ↦[slotOf Sa (0 : Fin 3) c.val]{fullShare} fv : sProp 𝕄) from rfl)) $$ Hrown
  iapply (wp_load 𝒱₀ (c : Thread nD τ) none Set.univ (m := (Memref.whole cc0_scratch0 : Memref sig .tc .vmem Sa .bf16)) (r := (rA (k0_off4 c) (k0_off4_inb c)).toLoadRect)
    (le_of_eq ((slot_load cc0_scratch0 _ _ _).trans (rectA _ c.val (k0_off4_eq c) _)))) $$ Hdown; iintro Hdown
  iapply (wp_load 𝒱₀ (c : Thread nD τ) none Set.univ (m := (Memref.whole cc0_scratch1 : Memref sig .tc .vmem Sa .bf16)) (r := (rA (k0_off4 c) (k0_off4_inb c)).toLoadRect)
    (le_of_eq ((slot_load cc0_scratch1 _ _ _).trans (rectA _ c.val (k0_off4_eq c) _)))) $$ Hrown; iintro Hrown
  iapply (wp_store 𝒱₀ (c : Thread nD τ) none Set.univ (m := (Memref.whole cc0_scratch1 : Memref sig .tc .vmem Sa .bf16)) (r := rA (k0_off4 c) (k0_off4_inb c)) (Mk := Finset.univ)
    (le_of_eq ((View.set_slice_whole _ _).trans (rectA _ c.val (k0_off4_eq c) _)))) $$ Hrown; iintro Hrown
  ihave Hrown := (Entails.of_eq (ownA m c (k0_off4 c) (k0_off4_eq c) (k0_off4_inb c) fv)) $$ Hrown
  -- the other devices' rows awaited
  ihave HatX := (Entails.of_eq (bigSep_cells (F := F) fun a i => atPos ER (xCell c a i) 0 ∅ 0)) $$ HatX
  icases HatX with ⟨⟨Ha0, HA0⟩, ⟨Ha1, HA1⟩, ⟨Ha2, HA2⟩, ⟨Ha3, HA3⟩⟩
  ihave Hwait := (wait_family (F := F) c 1) $$ [Hc1 HA1]
  · isplitl [Hc1] <;> iassumption
  iapply (wp_loop31 k0_t3_loop k0_t3_ok trips3 c _ iprop(recs m K ∗ levAts L lv) (waitPost m c 1) (waitPre c 1) (fun _ => OX c 3 0)
    (loop3 m K c _ _)) $$ [Hwait HO]
  · isplitr
    · isplitr; · iexact HR
      iexact Hlev
    isplitl [Hwait]; · iexact Hwait
    iexists _; iexact HO
  iintro ⟨Hgot, %W3, HO⟩
  ihave Hgot := (Entails.of_eq (got_family m c 1)) $$ Hgot
  icases Hgot with ⟨Hgot, Hz1⟩
  ihave Hrecv := (Entails.of_eq (got1 m c)) $$ [Hrown Hgot]
  · isplitl [Hrown] <;> iassumption
  -- the experts
  iapply (wp_load 𝒱₀ (c : Thread nD τ) none Set.univ (m := (Memref.whole cc0_scratch1 : Memref sig .tc .vmem Sa .bf16)) (Finset.subset_univ _)) $$ Hrecv; iintro Hrecv
  rw [read_recv]
  iapply (wp_load 𝒱₀ (c : Thread nD τ) none Set.univ (m := (Memref.whole cc0_stg3_0 : Memref sig .tc .vmem S4x256x512 .f32)) (Finset.subset_univ _)) $$ He; iintro He
  rw [read_e]
  iapply (wp_load 𝒱₀ (c : Thread nD τ) none Set.univ (m := (Memref.whole cc0_scratch2 : Memref sig .tc .vmem Sb .bf16)) (Finset.subset_univ _)) $$ Hret; iintro Hret
  iapply (wp_store 𝒱₀ (c : Thread nD τ) none Set.univ (m := (Memref.whole cc0_scratch2 : Memref sig .tc .vmem Sb .bf16))
    (r := Rect.unit (s := Sb) ![0, 0, 0] S32x48x512.size inb_S32x192x512_S32x48x512_0_0_0) (Mk := Finset.univ) (Finset.subset_univ _)) $$ Hret; iintro Hret
  iapply (wp_load 𝒱₀ (c : Thread nD τ) none Set.univ (m := (Memref.whole cc0_scratch2 : Memref sig .tc .vmem Sb .bf16)) (Finset.subset_univ _)) $$ Hret; iintro Hret
  iapply (wp_store 𝒱₀ (c : Thread nD τ) none Set.univ (m := (Memref.whole cc0_scratch2 : Memref sig .tc .vmem Sb .bf16))
    (r := Rect.unit (s := Sb) ![0, 48, 0] S32x48x512.size inb_S32x192x512_S32x48x512_0_48_0) (Mk := Finset.univ) (Finset.subset_univ _)) $$ Hret; iintro Hret
  iapply (wp_load 𝒱₀ (c : Thread nD τ) none Set.univ (m := (Memref.whole cc0_scratch2 : Memref sig .tc .vmem Sb .bf16)) (Finset.subset_univ _)) $$ Hret; iintro Hret
  iapply (wp_store 𝒱₀ (c : Thread nD τ) none Set.univ (m := (Memref.whole cc0_scratch2 : Memref sig .tc .vmem Sb .bf16))
    (r := Rect.unit (s := Sb) ![0, 96, 0] S32x48x512.size inb_S32x192x512_S32x48x512_0_96_0) (Mk := Finset.univ) (Finset.subset_univ _)) $$ Hret; iintro Hret
  iapply (wp_load 𝒱₀ (c : Thread nD τ) none Set.univ (m := (Memref.whole cc0_scratch2 : Memref sig .tc .vmem Sb .bf16)) (Finset.subset_univ _)) $$ Hret; iintro Hret
  iapply (wp_store 𝒱₀ (c : Thread nD τ) none Set.univ (m := (Memref.whole cc0_scratch2 : Memref sig .tc .vmem Sb .bf16))
    (r := Rect.unit (s := Sb) ![0, 144, 0] S32x48x512.size inb_S32x192x512_S32x48x512_0_144_0) (Mk := Finset.univ) (Finset.subset_univ _)) $$ Hret; iintro Hret
  ihave Hret := (Entails.of_eq (congrArg (fun f => (((c : Thread nD τ).loc cc0_scratch2) ↦{fullShare} f : sProp 𝕄)) (ret_stores m c ft _ _ _ _))) $$ Hret
  ihave Hret := (Entails.of_eq ((ret_slots c (retV m c)).trans (bigSep_dev c _))) $$ Hret
  icases Hret with ⟨Htown, Htoth⟩
  -- the results sent back
  ihave Hsend := (sendB_family m c) $$ [Ht2 Ht3 Htoth HqN]
  · isplitl [Ht2]; · iexact Ht2
    isplitl [Ht3]; · iexact Ht3
    isplitl [Htoth] <;> iassumption
  iapply (wp_loop31 k0_t4_loop k0_t4_ok trips4 c _ (recs m K) (fun j => cred (tallyAt (xCell c 2 j.succ) () (Nf 2))) (sendPreB m c) (fun k => OX c 3 k)
    (loop4 m K c)) $$ [Hsend HO]
  · isplitr; · iexact HR
    isplitl [Hsend]; · iexact Hsend
    iexists _; iexact HO
  iintro ⟨Hc2, %W4, HO⟩
  rw [show OX c 3 31 = 0 from sumFrom_end _]
  ihave Htown := (Entails.of_eq (show retS c c (retV m c) = (((c : Thread nD τ).loc cc0_scratch2) ↦[slotOf Sb (0 : Fin 3) c.val]{fullShare} (retV m c) : sProp 𝕄) from rfl)) $$ Htown
  ihave Hqown := (Entails.of_eq (show retrS c c fr = (((c : Thread nD τ).loc cc0_scratch3) ↦[slotOf Sb (0 : Fin 3) c.val]{fullShare} fr : sProp 𝕄) from rfl)) $$ Hqown
  iapply (wp_load 𝒱₀ (c : Thread nD τ) none Set.univ (m := (Memref.whole cc0_scratch2 : Memref sig .tc .vmem Sb .bf16)) (r := (rB (k0_off9 c) (k0_off9_inb c)).toLoadRect)
    (le_of_eq ((slot_load cc0_scratch2 _ _ _).trans (rectB _ c.val (k0_off9_eq c) _)))) $$ Htown; iintro Htown
  iapply (wp_load 𝒱₀ (c : Thread nD τ) none Set.univ (m := (Memref.whole cc0_scratch3 : Memref sig .tc .vmem Sb .bf16)) (r := (rB (k0_off9 c) (k0_off9_inb c)).toLoadRect)
    (le_of_eq ((slot_load cc0_scratch3 _ _ _).trans (rectB _ c.val (k0_off9_eq c) _)))) $$ Hqown; iintro Hqown
  iapply (wp_store 𝒱₀ (c : Thread nD τ) none Set.univ (m := (Memref.whole cc0_scratch3 : Memref sig .tc .vmem Sb .bf16)) (r := rB (k0_off9 c) (k0_off9_inb c)) (Mk := Finset.univ)
    (le_of_eq ((View.set_slice_whole _ _).trans (rectB _ c.val (k0_off9_eq c) _)))) $$ Hqown; iintro Hqown
  ihave Hqown := (Entails.of_eq (ownB m c (k0_off9 c) (k0_off9_eq c) (k0_off9_inb c) fr)) $$ Hqown
  ihave Hwait := (wait_family (F := F) c 3) $$ [Hc3 HA3]
  · isplitl [Hc3] <;> iassumption
  iapply (wp_loop31 k0_t5_loop k0_t5_ok trips5 c _ iprop(recs m K ∗ levAts L lv) (waitPost m c 3) (waitPre c 3) (fun _ => 0)
    (loop5 m K c)) $$ [Hwait HO]
  · isplitr
    · isplitr; · iexact HR
      iexact Hlev
    isplitl [Hwait]; · iexact Hwait
    iexists _; iexact HO
  iintro ⟨Hgot, %W5, HO⟩
  ihave Hgot := (Entails.of_eq (got_family m c 3)) $$ Hgot
  icases Hgot with ⟨Hgot, Hz3⟩
  ihave Hretr := (Entails.of_eq (got3 m c)) $$ [Hqown Hgot]
  · isplitl [Hqown] <;> iassumption
  -- the result written
  iapply (wp_load 𝒱₀ (c : Thread nD τ) none Set.univ (m := (Memref.whole cc0_scratch3 : Memref sig .tc .vmem Sb .bf16)) (Finset.subset_univ _)) $$ Hretr; iintro Hretr
  rw [read_retr]
  iapply (wp_load 𝒱₀ (c : Thread nD τ) none Set.univ (m := (Memref.whole cc0_stg4_0 : Memref sig .tc .vmem S1024x512 .f32)) (Finset.subset_univ _)) $$ Hout; iintro Hout
  iapply (wp_store 𝒱₀ (c : Thread nD τ) none Set.univ (m := (Memref.whole cc0_stg4_0 : Memref sig .tc .vmem S1024x512 .f32))
    (r := Rect.unit (s := S1024x512) ![0, 0] S1024x512.size inb_S1024x512_S1024x512_0_0) (Mk := Finset.univ) (Finset.subset_univ _)) $$ Hout; iintro Hout
  rw [write_out]
  -- the sends drained
  ihave Hw0 := (wait_family (F := F) c 0) $$ [Hc0 HA0]
  · isplitl [Hc0] <;> iassumption
  ihave Hw2 := (wait_family (F := F) c 2) $$ [Hc2 HA2]
  · isplitl [Hc2] <;> iassumption
  iapply (wp_loop31 k0_t6_loop k0_t6_ok trips6 c _ iprop(recs m K ∗ levAts L lv) (fun j => iprop(waitPost m c 0 j ∗ waitPost m c 2 j)) (fun j => iprop(waitPre c 0 j ∗ waitPre c 2 j)) (fun _ => 0)
    (loop6 m K c)) $$ [Hw0 Hw2 HO]
  · isplitr
    · isplitr; · iexact HR
      iexact Hlev
    isplitl [Hw0 Hw2]
    · rw [bigSep_sep']
      isplitl [Hw0] <;> iassumption
    iexists _; iexact HO
  iintro ⟨Hgot, %W6, HO⟩
  ihave Hgot := (Entails.of_eq ((bigSep_sep' Finset.univ (waitPost m c 0) (waitPost m c 2)).trans (congrArg₂ (fun X Y => iprop(X ∗ Y)) (got_family m c 0) (got_family m c 2)))) $$ Hgot
  icases Hgot with ⟨⟨Hg0, Hz0⟩, ⟨Hg2, Hz2⟩⟩
  ihave Hdown := (Entails.of_eq (show (((Memref.whole cc0_scratch0 : Memref sig .tc .vmem Sa .bf16).view.loc (c : Thread nD τ)) ↦[slotOf Sa (0 : Fin 3) c.val]{fullShare} (dispV m c) : sProp 𝕄) = dispS c c (dispV m c) from rfl)) $$ Hdown
  ihave Hdisp := (Entails.of_eq (got0 m c)) $$ [Hdown Hg0]
  · isplitl [Hdown]; · iexact Hdown
    iexact Hg0
  ihave Htown := (Entails.of_eq (show (((Memref.whole cc0_scratch2 : Memref sig .tc .vmem Sb .bf16).view.loc (c : Thread nD τ)) ↦[slotOf Sb (0 : Fin 3) c.val]{fullShare} (retV m c) : sProp 𝕄) = retS c c (retV m c) from rfl)) $$ Htown
  ihave Hret := (Entails.of_eq (got2 m c)) $$ [Htown Hg2]
  · isplitl [Htown]; · iexact Htown
    iexact Hg2
  imod (close0 m K c 0) $$ [Ha0] with Hy0
  · isplitr; · iexact HR
    iexact Ha0
  imod (close0 m K c 1) $$ [Ha1] with Hy1
  · isplitr; · iexact HR
    iexact Ha1
  imod (close0 m K c 2) $$ [Ha2] with Hy2
  · isplitr; · iexact HR
    iexact Ha2
  imod (close0 m K c 3) $$ [Ha3] with Hy3
  · isplitr; · iexact HR
    iexact Ha3
  rw [wp_ret]; imodintro
  iapply Hk
  unfold bodyPost Φ₁ scr Dat.owesAt Pipeline.owesWithin
  rw [show (dats m ρ 0 c).owed t₀.succ = 0 from rfl, bigSep_cells (F := F) fun a i => semVal (xCell c a i) 0]
  isplitl [Hdisp Hrecv Hret Hretr HzB Hy0 Hy1 Hy2 Hy3 Hz0 Hz1 Hz2 Hz3]
  · isplitl [Hdisp Hrecv Hret Hretr]
    · isplitl [Hdisp]; · iexists _; iexact Hdisp
      isplitl [Hrecv]; · iexists _; iexact Hrecv
      isplitl [Hret]; · iexists _; iexact Hret
      iexists _; iexact Hretr
    isplitl [HzB]; · iexact HzB
    isplitl [Hy0 Hz0]
    · isplitl [Hy0] <;> iassumption
    isplitl [Hy1 Hz1]
    · isplitl [Hy1] <;> iassumption
    isplitl [Hy2 Hz2]
    · isplitl [Hy2] <;> iassumption
    isplitl [Hy3] <;> iassumption
  isplitl [HO]
  · iexists W6
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists (outV m c); isplitr; · (ipureintro; rfl)
  iexact Hout

end Cert.MoeProof

end
-- ==== Proof.Launch.lean ====
/-
# The launch

The protocol's cells and tokens as minted, dealt to the devices that use them; the credit of the waits out of what is
owed; and the run of the whole program with the contents of every device's result.
-/
module

public import proofs.«01_k».proof.Proof.Body
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

set_option maxRecDepth 4000 in
/-- The one grid point's body, from what the launch hands it. -/
theorem body_ok (c : Dev nD) : BodyObligation (dats (F := F) m ρ 0 c) (defs₀ (F := F)) 𝒱₀ () Set.univ := fun t => by
  rw [fin_N t, bigSep_W0, bigSep_W0]
  simp only [owns_whole_eq]
  show iprop(Φ₀ m c ∗ (dats m ρ 0 c).owesAt () t₀.castSucc ∗ stgsBefore m ρ c) ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  unfold Φ₀ start
  iintro ⟨⟨⟨⟨%K, Hg⟩, Hc, Hl⟩, Hs⟩, Ho, Hw⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    isplitl [Ho]; · iexact Ho
    iexact Hw
  · iintro H; iexact H

theorem shares (c : Dev nD) (w : Fin cfg0.W) : (dats m ρ 0 c).share w = fullShare := by unfold Dat.share; split <;> rfl

/-! ## Cells and tokens minted -/

def allCells : Finset (GSem nD τ sig) := Finset.univ.map ⟨kcell, kcell_injective⟩

/-- The token of one duty: row 0 a device's barrier duties, rows 1 to 4 its four families' transfers. -/
def tokAt (x : Dev nD × Fin 5 × Fin 31) : GSem nD τ sig × ℕ × Fin 31 :=
  Fin.cases (motive := fun _ => GSem nD τ sig × ℕ × Fin 31) (barCell x.1, 0, x.2.2) (fun a => (xCell x.1 a x.2.2.succ, 0, 0)) x.2.1

/-- Device, row and trip read back from a token. -/
def tokBack (y : GSem nD τ sig × ℕ × Fin 31) : Dev nD × Fin 5 × ℕ := match y.1.2 with
  | .reg _ => (y.1.1.1, 0, y.2.2.val + 1)
  | .dma q => (y.1.1.1, (famOf q).1.succ, (famOf q).2.val)

omit [FloatOps F] in
theorem tokBack_tokAt (x : Dev nD × Fin 5 × Fin 31) : tokBack (tokAt x) = (x.1, x.2.1, x.2.2.val + 1) := by
  obtain ⟨c, a, j⟩ := x
  refine Fin.cases ?_ (fun a => ?_) a
  · rfl
  · show (c, (famOf (dS a j.succ)).1.succ, ((famOf (dS a j.succ)).2).val) = _
    rw [famOf_dS]; rfl

omit [FloatOps F] in
theorem tokAt_injective : Function.Injective tokAt := fun x y h => by
  have h' := congrArg tokBack h
  rw [tokBack_tokAt, tokBack_tokAt] at h'
  obtain ⟨c, a, j⟩ := x
  obtain ⟨c', a', j'⟩ := y
  simp only [Prod.mk.injEq] at h'
  obtain ⟨rfl, rfl, hj⟩ := h'
  obtain rfl : j = j' := Fin.ext (by omega)
  rfl

def allToks : Finset (GSem nD τ sig × ℕ × Fin 31) := Finset.univ.map ⟨tokAt, tokAt_injective⟩

/-- The launch's element: the pipeline's own and the protocol's. -/
def u₀ : UU := (initOf (Pipeline.cells cfgs cellOf_inj) (Pipeline.launchToks cfgs cellOf_inj), initOf allCells allToks)

/-- The tokens of a device's own cells. -/
def ownToks (c : Dev nD) : sProp 𝕄 := bigSep Finset.univ fun x : Fin 5 × Fin 31 => dutyTok ER (tokAt (c, x)).1 (tokAt (c, x)).2.1 (tokAt (c, x)).2.2

/-- What the minting deals a device: its cells' rounds, positions and tokens. -/
def G (c : Dev nD) : sProp 𝕄 :=
  iprop((bigSep Finset.univ fun k : Option (Fin 4 × Fin 32) => roundState ER (moeRd m) (kcell (c, k)) 0)
    ∗ ((bigSep Finset.univ fun k : Option (Fin 4 × Fin 32) => atPos ER (kcell (c, k)) 0 ∅ 0) ∗ bigSep Finset.univ fun k : Option (Fin 4 × Fin 32) => reached ER (kcell (c, k)) 0) ∗ ownToks c)

/-- What a device starts with. -/
def G' (c : Dev nD) : sProp 𝕄 := iprop(∃ K, ghost m K c)

omit [FloatOps F] in
theorem bigSep_allCells (Φ : GSem nD τ sig → sProp 𝕄) :
    bigSep allCells Φ = bigSep Finset.univ fun c : Dev nD => bigSep Finset.univ fun k : Option (Fin 4 × Fin 32) => Φ (kcell (c, k)) := by
  unfold allCells; rw [bigSep_map, bigSep_univ_prod]; rfl

omit [FloatOps F] in
theorem bigSep_allToks : bigSep allToks (fun x => (dutyTok ER x.1 x.2.1 x.2.2 : sProp 𝕄)) = bigSep Finset.univ fun c : Dev nD => ownToks c := by
  unfold allToks; rw [bigSep_map, bigSep_univ_prod]; rfl

theorem minted : BI.own (ER (initOf allCells allToks)) ⊢ (|==> bigSep Finset.univ (G m) : sProp 𝕄) := by
  iintro HX
  imod (Rounds.fund ER (moeRd m) allCells allToks) $$ HX with ⟨Hst, Hr, Hat, Htok⟩
  imodintro
  ihave Hst := (Entails.of_eq (bigSep_allCells fun g => roundState ER (moeRd m) g 0)) $$ Hst
  ihave Hat := (Entails.of_eq (bigSep_allCells fun g => atPos ER g 0 ∅ 0)) $$ Hat
  ihave Hr := (Entails.of_eq (bigSep_allCells fun g => reached ER g 0)) $$ Hr
  ihave Htok := (Entails.of_eq bigSep_allToks) $$ Htok
  unfold G
  rw [bigSep_sep', bigSep_sep', bigSep_sep']
  isplitl [Hst]; · iexact Hst
  isplitl [Hat Hr]
  · isplitl [Hat] <;> iassumption
  iexact Htok

/-! ## The semaphores at zero -/

omit [FloatOps F] in
theorem own_zero (c : Dev nD) : (Pipeline.ownSems0 (Ix := Unit) (Name := ℕ) (U := UU) (Lvl := ℕ) (Val := Elt F) (τ := τ) osem c : sProp 𝕄)
    = bigSep Finset.univ fun k : Fin 4 × Fin 32 => semVal (xCell c k.1 k.2) 0 := rfl
omit [FloatOps F] in
theorem unscoped_zero (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 4 × Fin 32) => semVal (kcell (c, k)) 0 : sProp 𝕄) := by
  rw [own_zero, unscoped_zero, bigSep_option]
  iintro ⟨H1, H2⟩
  isplitl [H2]; · iexact H2
  iexact H1

theorem cells_alloc (c : Dev nD) :
    iprop((bigSep Finset.univ fun k : Option (Fin 4 × Fin 32) => semVal (kcell (c, k)) 0) ∗ bigSep Finset.univ fun k : Option (Fin 4 × Fin 32) => roundState ER (moeRd m) (kcell (c, k)) 0)
      ⊢ (|={Set.univ}=> bigSep Finset.univ fun k => iprop(∃ κ : ℕ, cellInv ER (moeRd m) κ (kcell (c, k))) : sProp 𝕄) := by
  rw [← bigSep_sep']
  exact (bigSep_mono fun k _ => (Rounds.body_intro ER (moeRd m) (kcell (c, k))).trans inv_alloc).trans (bigSep_fupd _ _)

/-- A device's cells with their invariants allocated. -/
def Galloc (c : Dev nD) : sProp 𝕄 :=
  iprop((bigSep Finset.univ fun k : Option (Fin 4 × Fin 32) => iprop(∃ κ : ℕ, cellInv ER (moeRd m) κ (kcell (c, k))))
    ∗ ((bigSep Finset.univ fun k : Option (Fin 4 × Fin 32) => atPos ER (kcell (c, k)) 0 ∅ 0) ∗ bigSep Finset.univ fun k : Option (Fin 4 × Fin 32) => reached ER (kcell (c, k)) 0) ∗ ownToks c)

theorem dev_alloc (c : Dev nD) :
    iprop(Pipeline.ownSems0 (Ix := Unit) (Name := ℕ) (U := UU) (Lvl := ℕ) (Val := Elt F) (τ := τ) osem c ∗ unscopedSems0 c ∗ G m c) ⊢ |={Set.univ}=> Galloc m c := by
  unfold G Galloc
  iintro ⟨Hos, Hus, Hst, Hrest⟩
  ihave Hv := (sems_zero (F := F) c) $$ [Hos Hus]
  · isplitl [Hos] <;> iassumption
  imod (cells_alloc m c) $$ [Hv Hst] with Hinv
  · isplitl [Hv] <;> iassumption
  imodintro
  isplitl [Hinv] <;> iassumption

/-! ## Tokens dealt around -/

/-- Devices by trip, moved on by the trip's shift. -/
def around : Dev nD × Fin 31 ≃ Dev nD × Fin 31 :=
  ⟨fun x => (nxt x.1 x.2, x.2), fun x => (prv x.1 x.2, x.2), fun x => Prod.ext (prv_nxt x.1 x.2) rfl, fun x => Prod.ext (nxt_prv x.1 x.2) rfl⟩

omit [FloatOps F] in
theorem bigSep_around (Φ : Dev nD → Fin 31 → sProp 𝕄) :
    (bigSep Finset.univ fun c : Dev nD => bigSep Finset.univ fun j : Fin 31 => Φ c j) = bigSep Finset.univ fun c : Dev nD => bigSep Finset.univ fun j : Fin 31 => Φ (nxt c j) j := by
  rw [← bigSep_univ_prod (fun x : Dev nD × Fin 31 => Φ x.1 x.2), bigSep_univ_equiv around, bigSep_univ_prod]; rfl

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem ownToks_eq (c : Dev nD) : (ownToks c : sProp 𝕄) = iprop((bigSep Finset.univ fun j : Fin 31 => dutyTok ER (barCell c) 0 j)
    ∗ (bigSep Finset.univ fun j : Fin 31 => dutyTok ER (xCell c 0 j.succ) 0 0) ∗ (bigSep Finset.univ fun j : Fin 31 => dutyTok ER (xCell c 1 j.succ) 0 0)
    ∗ (bigSep Finset.univ fun j : Fin 31 => dutyTok ER (xCell c 2 j.succ) 0 0) ∗ (bigSep Finset.univ fun j : Fin 31 => dutyTok ER (xCell c 3 j.succ) 0 0)) := by
  unfold ownToks; rw [bigSep_univ_prod, bigSep_fin5]; rfl

omit [FloatOps F] in
/-- Each token goes to the device that pays its duty. -/
theorem toks_dealt : (bigSep Finset.univ fun c : Dev nD => (ownToks c : sProp 𝕄)) = bigSep Finset.univ fun c : Dev nD => payToks c := by
  rw [bigSep_congr fun c _ => ownToks_eq c]
  unfold payToks
  simp only [bigSep_sep']
  rw [bigSep_around fun c j => dutyTok ER (barCell c) 0 j, bigSep_around fun c j => dutyTok ER (xCell c 1 j.succ) 0 0,
    bigSep_around fun c j => dutyTok ER (xCell c 3 j.succ) 0 0]

omit [FloatOps F] in
/-- Something kept for ever goes along with each member. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and tokens, beside the records. -/
def mine (c : Dev nD) : sProp 𝕄 := iprop((bigSep Finset.univ fun k : Option (Fin 4 × Fin 32) => atPos ER (kcell (c, k)) 0 ∅ 0) ∗ payToks c)

theorem ghost_of (K : Dev nD × Option (Fin 4 × Fin 32) → ℕ) (c : Dev nD) : iprop(recs m K ∗ mine c) ⊢ G' m c := by
  unfold mine G' ghost
  rw [bigSep_option]
  iintro ⟨HR, ⟨HB, HX⟩, Ht⟩
  iexists K
  isplitl [HR]; · iexact HR
  isplitl [HB HX]
  · isplitl [HB]; · iexact HB
    iexact HX
  iexact Ht

theorem regrouped : (bigSep Finset.univ fun c : Dev nD => Galloc m c) ⊢ bigSep Finset.univ (G' m) := by
  unfold Galloc
  rw [bigSep_sep', bigSep_sep', bigSep_sep', ← bigSep_univ_prod (fun ck : Dev nD × Option (Fin 4 × Fin 32) => iprop(∃ κ : ℕ, cellInv ER (moeRd m) κ (kcell ck))),
    ← bigSep_univ_prod (fun ck : Dev nD × Option (Fin 4 × Fin 32) => (reached ER (kcell ck) 0 : sProp 𝕄)), toks_dealt]
  iintro ⟨HI, ⟨Hat, HR⟩, Htok⟩
  ihave HK := (BI.bigSep_exists_pi Finset.univ (fun (ck : Dev nD × Option (Fin 4 × Fin 32)) (κ : ℕ) => (cellInv ER (moeRd m) κ (kcell ck) : sProp 𝕄))) $$ HI
  icases HK with ⟨%K, HI⟩
  iapply (bigSep_along (R := recs m K) fun c _ => ghost_of m K c)
  isplitl [HI HR]
  · unfold recs; isplitl [HI] <;> iassumption
  unfold mine
  rw [bigSep_sep']
  isplitl [Hat] <;> iassumption

/-- Every device's cells at once: allocated, and dealt. -/
theorem setup : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (regrouped m))

/-! ## The credit of the waits -/

omit [FloatOps F] in
theorem barCell_inj {a b : Dev nD} (h : barCell a = barCell b) : a = b := congrArg (fun g : GSem nD τ sig => g.1.1) h
omit [FloatOps F] in
theorem xCell_inj {a b : Dev nD} {f f' : Fin 4} {i i' : Fin 32} (h : xCell a f i = xCell b f' i') : a = b ∧ f = f' ∧ i = i' := by
  have h2 : dS f i = dS f' i' := by
    have := congrArg Prod.snd h
    injection this
  have h3 := congrArg famOf h2
  rw [famOf_dS, famOf_dS] at h3
  exact ⟨congrArg (fun g : GSem nD τ sig => g.1.1) h, congrArg Prod.fst h3, congrArg Prod.snd h3⟩

omit [FloatOps F] in
theorem sumFrom_apply (f : Fin 31 → CellTallies nD τ sig Unit) (g : GSem nD τ sig) : sumFrom f 0 g () = ∑ j, f j g () := by
  rw [sumFrom_start, Finset.sum_apply, Finsupp.finset_sum_apply]

omit [FloatOps F] in
theorem OB_at_bar (d c : Dev nD) : OB d 0 (barCell c) () = ∑ j : Fin 31, if d = prv c j then 1 else 0 := by
  unfold OB
  rw [sumFrom_apply]
  refine Finset.sum_congr rfl fun j _ => ?_
  rw [tallyAt_apply]
  by_cases h : d = prv c j
  · rw [if_pos h, if_pos ⟨by rw [h, nxt_prv], rfl⟩]
  · rw [if_neg h, if_neg fun h' => h (by rw [barCell_inj h'.1, prv_nxt])]
omit [FloatOps F] in
theorem OX_at_bar (d c : Dev nD) (a : Fin 4) : OX d a 0 (barCell c) () = 0 := by
  unfold OX
  rw [sumFrom_apply]
  refine Finset.sum_eq_zero fun j _ => ?_
  rw [tallyAt_apply, if_neg fun h => by cases congrArg Prod.snd h.1]
omit [FloatOps F] in
theorem OB_at_x (d c : Dev nD) (a : Fin 4) (i : Fin 32) : OB d 0 (xCell c a i) () = 0 := by
  unfold OB
  rw [sumFrom_apply]
  refine Finset.sum_eq_zero fun j _ => ?_
  rw [tallyAt_apply, if_neg fun h => by cases congrArg Prod.snd h.1]
omit [FloatOps F] in
theorem OX_at_x (d c : Dev nD) (b a : Fin 4) (i : Fin 31) : OX d b 0 (xCell c a i.succ) () = if d = prv c i then (if b = a then Nf a else 0) else 0 := by
  unfold OX
  rw [sumFrom_apply, Finset.sum_eq_single i]
  · rw [tallyAt_apply]
    by_cases h : d = prv c i
    · by_cases hb : b = a
      · rw [if_pos h, if_pos hb, if_pos ⟨by rw [h, nxt_prv, hb], rfl⟩, hb]
      · rw [if_pos h, if_neg hb, if_neg fun h' => hb (xCell_inj h'.1).2.1.symm]
    · rw [if_neg h, if_neg fun h' => h (by rw [(xCell_inj h'.1).1, prv_nxt])]
  · intro j _ hj
    rw [tallyAt_apply, if_neg fun h => hj (Fin.succ_injective _ (xCell_inj h.1).2.2).symm]
  · intro h; exact absurd (Finset.mem_univ _) h

omit [FloatOps F] in
theorem owed_bar (d c : Dev nD) : O₀ d (barCell c) () = ∑ j : Fin 31, if d = prv c j then 1 else 0 := by
  unfold O₀
  rw [Pi.add_apply, Finsupp.add_apply, Pi.add_apply, Finsupp.add_apply, OX_at_bar, OX_at_bar, OB_at_bar, Nat.zero_add]
omit [FloatOps F] in
theorem owed_x (d c : Dev nD) (a : Fin 4) (ha : a = 1 ∨ a = 3) (i : Fin 31) : O₀ d (xCell c a i.succ) () = if d = prv c i then Nf a else 0 := by
  unfold O₀
  rw [Pi.add_apply, Finsupp.add_apply, Pi.add_apply, Finsupp.add_apply, OX_at_x, OX_at_x, OB_at_x, Nat.add_zero]
  by_cases h : d = prv c i
  · rw [if_pos h, if_pos h, if_pos h]
    rcases ha with rfl | rfl
    · rw [if_neg (by decide), if_pos rfl, Nat.zero_add]
    · rw [if_pos rfl, if_neg (by decide), Nat.add_zero]
  · rw [if_neg h, if_neg h, if_neg h]

omit [FloatOps F] in
theorem credit_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (prv c j) fun _ => 1).trans (if_pos (Finset.mem_univ _))]
  rfl
omit [FloatOps F] in
theorem credit_x (c : Dev nD) (a : Fin 4) (ha : a = 1 ∨ a = 3) (i : Fin 31) :
    tallyOn (xCell c a i.succ) (launchCredit (Pipeline.owing O₀) 0 (xCell c a i.succ)) = (tallyAt (xCell c a i.succ) () (Nf a) : CellTallies nD τ sig Unit) := by
  unfold tallyAt; refine congrArg _ (Finsupp.ext fun u => ?_); cases u
  rw [Pipeline.launchCredit_owing, Finsupp.single_eq_same, Finset.sum_congr rfl fun d _ => owed_x d c a ha i,
    Finset.sum_ite_eq' Finset.univ (prv c i) fun _ => Nf a, if_pos (Finset.mem_univ _)]

/-- The cells by which a device waits for rows coming in. -/
def inSem (x : Fin 2 × Fin 31) : SemLoc sig := osem (if x.1 = 0 then 1 else 3, x.2.succ)
omit [FloatOps F] in
theorem inSem_injective : Function.Injective inSem := fun x y h => by
  have h' := osem_injective h
  obtain ⟨a, j⟩ := x
  obtain ⟨b, k⟩ := y
  simp only [Prod.mk.injEq] at h'
  obtain rfl := Fin.succ_injective _ h'.2
  have h1 := h'.1
  have key : ∀ a b : Fin 2, (if a = 0 then (1 : Fin 4) else 3) = (if b = 0 then 1 else 3) → a = b := by decide
  rw [key a b h1]

omit [FloatOps F] in
theorem credits (c : Dev nD) : (Pipeline.launchCred O₀ c : sProp 𝕄) ⊢ creds c := by
  unfold Pipeline.launchCred creds
  rw [bigSep_univ_at _ (SemLoc.reg barS), credit_bar]
  refine sep_mono_right ?_
  refine (bigSep_subset (t := Finset.univ.map ⟨inSem, inSem_injective⟩) (fun s hs => ?_)).trans ?_
  · obtain ⟨x, -, rfl⟩ := Finset.mem_map.mp hs
    exact Finset.mem_erase.mpr ⟨(fun h => nomatch h), Finset.mem_univ _⟩
  · rw [bigSep_map, bigSep_univ_prod, bigSep_univ_eq_bigSepL [0, 1] (by decide) (by decide)]
    refine Entails.of_eq (congrArg₂ (fun X Y => iprop(X ∗ Y)) (bigSep_congr fun j _ => ?_) (bigSep_congr fun j _ => ?_))
    · exact congrArg cred (credit_x c 1 (Or.inl rfl) j)
    · exact congrArg cred (credit_x c 3 (Or.inr rfl) j)

/-! ## The launch's other conditions -/

theorem start_ok (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zero, unscoped_zero]
  unfold Φ₁ scr
  iintro ⟨Hr, HB, HX⟩
  isplitl [HB]; · iexact HB
  isplitl [HX] <;> iassumption

omit [FloatOps F] in
theorem stage_low (w : Fin cfg0.W) (s) (c : Dev nD) : lv ((c : Thread nD τ), .dma ((cfg0.win w).sem s)) () ≤ 0 := by
  fin_cases w <;> fin_cases s <;> exact Nat.le_refl _

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_below c _ _ 0 (stage_low w s c) fun g u h => O₀_pos h
    · exact mayWait_none c _

/-! ## The run -/

/-- What the run leaves in the arrays of the launch. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the compiled mesh of thirty-two devices, over any float values and from any memory with every counter at zero:
    every weakly fair execution of the program terminates, and ends with the arrays at the stated contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := fun w => by fin_cases w <;> exact Nat.succ_pos _) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (minted m) $$ HX with HG
      imodintro
      isplitl [HP] <;> iassumption)
    (hglob := setup m)
    (hA := fun _ _ => rfl) (hpf := fun _ k => k.elim0)
    (X := start m) (Y := fun c => unscopedSems0 c) (Z := fun _ => iprop(emp))
    (hX := start_ok m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeProof

end
-- ==== Proof.Frames.lean ====
/-
# The frames

That each of the programs runs to its end, leaves its arguments as they were and every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.MoeProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The four argument arrays of every device end as they began. -/
theorem args_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats (F := F) m ρ 0 c).arrAt_in (0 : Fin 5) rfl _), (h c (1 : Fin 5)).trans ((dats (F := F) m ρ 0 c).arrAt_in (1 : Fin 5) rfl _),
    (h c (2 : Fin 5)).trans ((dats (F := F) m ρ 0 c).arrAt_in (2 : Fin 5) rfl _), (h c (3 : Fin 5)).trans ((dats (F := F) m ρ 0 c).arrAt_in (3 : Fin 5) rfl _)⟩

/-- At any float values the program runs to its end, keeps its arguments and returns every counter to zero. -/
theorem frame_any : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun r h => ⟨fun c => args_kept m ρ r h.1 c, h.2⟩) (run_main m ρ)

/-- The program over the reals runs to its end, keeps its arguments and returns every counter to zero. -/
theorem frame_ideal : Cert.quiescent_KernelIdeal := fun m ρ _ => frame_any m ρ

set_option smartUnfolding false in
/-- The body table of the program over bit-level floats is the other program's: its text is the same. -/
theorem defs_same : @Cert.Kernel.defs Bits _ Cert.Kernel.Gen.facts
    = @Cert.KernelIdeal.defs Bits _ Cert.KernelIdeal.Gen.facts := by with_unfolding_all rfl

/-- The program over bit-level floats runs to its end, keeps its arguments and returns every counter to zero. -/
theorem frame_kernel : Cert.quiescent_Kernel := by
  intro m ρ _
  rw [defs_same]
  exact frame_any (F := Bits) m ρ

/-- The reference keeps its arguments; it has no counter to move. -/
theorem frame_ref : Cert.quiescent_ReferenceIdeal := fun m ρ _ =>
  (θ_run Cert.ReferenceIdeal.defs _ _).mono (fun r h => ⟨fun c => (h c).2, funext fun s => match s with
    | (_, .reg a) => a.elim0
    | (_, .dma a) => a.elim0⟩)
    (Cert.ReferenceIdeal.Value.run m ρ)

end Cert.MoeProof

end
-- ==== Proof.Count.lean ====
/-
# How many earlier pairs went to an expert

The kernel adds a row of counts to itself shifted by 1, 2, 4, …, 512 places: after the shift by `L` an element holds
the sum of the last `2 L` counts. Taking the own count away again leaves the number of earlier pairs.
-/
module

public import proofs.«01_k».proof.Proof.Sched
public import Idealize.ShloMosaic.Lib.Pointwise

@[expose] public section

noncomputable section

namespace Cert.MoeProof

open Cert.KernelIdeal Cert.KernelIdeal.Gen
open Idealize.ShloMosaic

/-- Comparing two words for equality. -/
theorem cmpi_eq {n : ℕ} (a b : BitVec n) : IntOp.cmpi .eq a b = if a = b then 1#1 else 0#1 := by
  by_cases h : a = b
  · simp [IntOp.cmpi, h]
  · simp [IntOp.cmpi, h, beq_eq_false_iff_ne.2 h]

/-- A row moved `w` places to the right, zeros filling the room. -/
theorem shift_apply (w u : ℕ) (hu : w + u = 1024) (x : IVec S128x1024 32) (hs : S128x1024.Slices ![0, 0] ⟨2, ![128, u]⟩)
    (hc : Shape.Concatenates [⟨2, ![128, w]⟩, ⟨2, ![128, u]⟩] S128x1024 1) (e : Fin 128) (t : Fin 1024) :
    concatenate S128x1024 1 [⟨⟨2, ![128, w]⟩, broadcast ⟨2, ![128, w]⟩ 0#32⟩,
        ⟨⟨2, ![128, u]⟩, extractStridedSlice ⟨2, ![128, u]⟩ ![0, 0] x hs⟩] hc (ix2 e t)
      = if h : t.val < w then 0#32 else x (ix2 e ⟨t.val - w, by omega⟩) := by
  pointwise
  rfl

/-- Element `t` of row `e` holds the sum of the last `L` counts up to `t` itself. -/
def Win (g : Fin 128 → ℕ → ℕ) (L : ℕ) (x : IVec S128x1024 32) : Prop :=
  ∀ (e : Fin 128) (t : Fin 1024), x (ix2 e t) = BitVec.ofNat 32 (∑ s ∈ Finset.Ico (t.val + 1 - L) (t.val + 1), g e s)

/-- The counts themselves are the sums of one. -/
theorem win_one (g : Fin 128 → ℕ → ℕ) (x : IVec S128x1024 32)
    (hx : ∀ (e : Fin 128) (t : Fin 1024), x (ix2 e t) = BitVec.ofNat 32 (g e t.val)) : Win g 1 x := by
  intro e t
  rw [hx, Nat.add_sub_cancel, Nat.Ico_succ_singleton, Finset.sum_singleton]

/-- Adding the row moved by `w` doubles the length `w` of the sums. -/
theorem win_step (w u : ℕ) (hu : w + u = 1024) (g : Fin 128 → ℕ → ℕ) (x : IVec S128x1024 32) (hx : Win g w x)
    (hs : S128x1024.Slices ![0, 0] ⟨2, ![128, u]⟩) (hc : Shape.Concatenates [⟨2, ![128, w]⟩, ⟨2, ![128, u]⟩] S128x1024 1) :
    Win g (2 * w) (addi x (concatenate S128x1024 1 [⟨⟨2, ![128, w]⟩, broadcast ⟨2, ![128, w]⟩ 0#32⟩,
        ⟨⟨2, ![128, u]⟩, extractStridedSlice ⟨2, ![128, u]⟩ ![0, 0] x hs⟩] hc)) := by
  intro e t
  rw [show ∀ y : IVec S128x1024 32, addi x y (ix2 e t) = x (ix2 e t) + y (ix2 e t) from fun _ => rfl,
    shift_apply w u hu, hx]
  split
  · rename_i h
    rw [BitVec.add_zero, show t.val + 1 - 2 * w = t.val + 1 - w by omega]
  · rename_i h
    rw [hx, ← BitVec.ofNat_add, add_comm]
    simp only
    rw [show t.val - w + 1 = t.val + 1 - w by omega, show t.val + 1 - w - w = t.val + 1 - 2 * w by omega,
      Finset.sum_Ico_consecutive _ (by omega) (by omega)]

/-- The kernel's row sums after the shift by 128. -/
theorem win_pay15 (g : Fin 128 → ℕ → ℕ) (v w : IVec S1024x1 32) (h : Win g 1 (k0_pay14 v w)) : Win g 256 (k0_pay15 v w) := by
  unfold k0_pay15
  exact win_step 128 896 rfl g _ (win_step 64 960 rfl g _ (win_step 32 992 rfl g _ (win_step 16 1008 rfl g _
    (win_step 8 1016 rfl g _ (win_step 4 1020 rfl g _ (win_step 2 1022 rfl g _ (win_step 1 1023 rfl g _ h
      _ _) _ _) _ _) _ _) _ _) _ _) _ _) _ _

/-- With the shift by 256. -/
theorem win_pay16 (g : Fin 128 → ℕ → ℕ) (v w : IVec S1024x1 32) (h : Win g 1 (k0_pay14 v w)) :
    Win g 512 (addi (k0_pay15 v w) (k0_pay16 v w)) := by
  unfold k0_pay16
  exact win_step 256 768 rfl g _ (win_pay15 g v w h) _ _

/-- Place `k` of an expert's buffer is the token's own when `k` earlier pairs went to the expert. -/
theorem pay17_apply (g : Fin 128 → ℕ → ℕ) (v w : IVec S1024x1 32) (h : ∀ (e : Fin 128) (t : Fin 1024), k0_pay14 v w (ix2 e t) = BitVec.ofNat 32 (g e t.val))
    (e : Fin 128) (k : Fin 48) (t : Fin 1024) (hg : ∑ s ∈ Finset.range t.val, g e s < 4096) :
    k0_pay17 (k0_pay14 v w) (k0_pay15 v w) (k0_pay16 v w) (ix3 e k t)
      = if ∑ s ∈ Finset.range t.val, g e s = k.val then 1#1 else 0#1 := by
  have h512 := win_pay16 g v w (win_one g _ h)
  have h1024 := win_step 512 512 rfl g _ h512 slices_S128x1024_o0_0_S128x512 concatenates_S128x512_S128x512_S128x1024_d1
  have hz := h1024 e t
  have hp : k0_pay17 (k0_pay14 v w) (k0_pay15 v w) (k0_pay16 v w) (ix3 e k t)
      = IntOp.cmpi .eq (BitVec.ofNat 32 (∑ s ∈ Finset.range t.val, g e s)) (BitVec.ofNat 32 k.val) := by
    unfold k0_pay17
    generalize hy : addi (addi (k0_pay15 v w) (k0_pay16 v w)) _ = y at hz ⊢
    pointwise
    rw [hz, h, show t.val + 1 - 2 * 512 = 0 by omega, Nat.Ico_zero_eq_range, Finset.sum_range_succ, BitVec.ofNat_add]
    show IntOp.cmpi .eq (_ + _ - _) _ = _
    rw [BitVec.add_sub_cancel]
  rw [hp, cmpi_eq]
  have hk := k.isLt
  refine if_congr ⟨fun hh => ?_, fun hh => by rw [hh]⟩ rfl rfl
  have := congrArg BitVec.toNat hh
  rw [BitVec.toNat_ofNat, BitVec.toNat_ofNat] at this
  omega

end Cert.MoeProof

end
-- ==== Proof.Moe.lean ====
/-
# Sending out and bringing back, as sums

Every token names two experts. Expert `e` has 48 places; the token's place with an expert is the number of pairs that
name the expert before it. Summing one-hot products over all 6144 places brings back exactly the token's own two rows,
provided that a token's two experts differ and that no expert is named more than 48 times.
-/
module

public import proofs.«01_k».proof.Proof.Sched
public import Idealize.ShloMosaic.Lib.Pointwise

@[expose] public section

noncomputable section

namespace Cert.MoeProof

open Idealize.ShloMosaic

/-- One for a true statement, zero for a false one. -/
def ind (p : Prop) [Decidable p] : EReal := if p then 1 else 0

/-- Element `i` of a row of 128, zero outside it. -/
def pickW (p : Fin 128 → EReal) (i : BitVec 32) : EReal := if h : i.toNat < 128 then p ⟨i.toNat, h⟩ else 0

/-- A token's softmax over the experts: `x` the token's row, `w` the router's weights. -/
def prob (x : Fin 256 → EReal) (w : Fin 256 → Fin 128 → EReal) (e : Fin 128) : EReal :=
  Ideal.div (Ideal.exp (∑ k, x k * w k e - Finset.fold max (Ideal.ofBits .f32 0xFF800000#32) (fun e' => ∑ k, x k * w k e') Finset.univ))
    (∑ e₁, Ideal.exp (∑ k, x k * w k e₁ - Finset.fold max (Ideal.ofBits .f32 0xFF800000#32) (fun e' => ∑ k, x k * w k e') Finset.univ))

/-- The word of an expert's number is `i` when the number is. -/
theorem word_eq_iff (e : Fin 128) (i : BitVec 32) : BitVec.ofNat 32 e.val = i ↔ e.val = i.toNat := by
  have := e.isLt
  constructor
  · rintro rfl; rw [BitVec.toNat_ofNat]; omega
  · intro h; apply BitVec.eq_of_toNat_eq; rw [BitVec.toNat_ofNat]; omega

/-- Summing a row over the experts whose number is the word picks the word's element. -/
theorem sum_pick (p : Fin 128 → EReal) (i : BitVec 32) :
    (∑ e : Fin 128, if BitVec.ofNat 32 e.val = i then p e else 0) = pickW p i := by
  unfold pickW
  split
  · rename_i h
    rw [Finset.sum_eq_single ⟨i.toNat, h⟩, if_pos ((word_eq_iff _ _).2 rfl)]
    · intro e _ he
      exact if_neg fun hh => he (Fin.ext ((word_eq_iff _ _).1 hh))
    · intro hh; exact absurd (Finset.mem_univ _) hh
  · rename_i h
    exact Finset.sum_eq_zero fun e _ => if_neg fun hh => h ((word_eq_iff _ _).1 hh ▸ e.isLt)

variable (a b : Fin 1024 → BitVec 32)

/-- How often token `s` names expert `e`. -/
def names (e : Fin 128) (s : ℕ) : ℕ :=
  if h : s < 1024 then (if BitVec.ofNat 32 e.val = a ⟨s, h⟩ then 1 else 0) + (if BitVec.ofNat 32 e.val = b ⟨s, h⟩ then 1 else 0) else 0

theorem names_eq (e : Fin 128) (t : Fin 1024) : names a b e t.val
    = (if BitVec.ofNat 32 e.val = a t then 1 else 0) + (if BitVec.ofNat 32 e.val = b t then 1 else 0) := dif_pos t.isLt

/-- How often the tokens before `t` name expert `e`. -/
def before (e : Fin 128) (t : ℕ) : ℕ := ∑ s ∈ Finset.range t, names a b e s

theorem before_mono (e : Fin 128) {s t : ℕ} (h : s ≤ t) : before a b e s ≤ before a b e t :=
  Finset.sum_le_sum_of_subset (Finset.range_mono h)

theorem before_succ (e : Fin 128) (t : ℕ) : before a b e (t + 1) = before a b e t + names a b e t := Finset.sum_range_succ _ _

/-- Nothing is named more than twice by a token, so the counts stay small. -/
theorem before_le (e : Fin 128) (t : ℕ) : before a b e t ≤ 2 * t := by
  induction t with
  | zero => exact le_refl _
  | succ n ih =>
    have : names a b e n ≤ 2 := by unfold names; split_ifs <;> omega
    rw [before_succ]; omega

/-- Two tokens that name an expert have different places with it. -/
theorem place_inj (e : Fin 128) {s t : Fin 1024} (hs : 0 < names a b e s.val) (ht : 0 < names a b e t.val)
    (h : before a b e s.val = before a b e t.val) : s = t := by
  rcases lt_trichotomy s.val t.val with hl | he | hl
  · have := before_mono a b e (Nat.succ_le_of_lt hl); rw [Nat.succ_eq_add_one, before_succ] at this; omega
  · exact Fin.ext he
  · have := before_mono a b e (Nat.succ_le_of_lt hl); rw [Nat.succ_eq_add_one, before_succ] at this; omega

/-- The place of a token that names an expert is one of the 48. -/
theorem place_lt (hcap : ∀ e, before a b e 1024 ≤ 48) (e : Fin 128) (t : Fin 1024) (ht : 0 < names a b e t.val) :
    before a b e t.val < 48 := by
  have := before_mono a b e (Nat.succ_le_of_lt t.isLt); rw [Nat.succ_eq_add_one, before_succ] at this
  have := hcap e; omega

/-- Token `t` has place `k` with expert `e`, which it names in the column `v`. -/
def hit (v : Fin 1024 → BitVec 32) (e : Fin 128) (k : ℕ) (t : Fin 1024) : Prop :=
  BitVec.ofNat 32 e.val = v t ∧ before a b e t.val = k

instance (v : Fin 1024 → BitVec 32) (e : Fin 128) (k : ℕ) (t : Fin 1024) : Decidable (hit a b v e k t) :=
  inferInstanceAs (Decidable (_ ∧ _))

/-- Expert and place of a row among the 6144. -/
def exOf (q : Fin 6144) : Fin 128 := ⟨q.val / 48, by have := q.isLt; omega⟩

/-- Row `q` as it is sent out: the sum of the tokens that have its place. -/
def sent (x : Fin 1024 → EReal) (q : Fin 6144) : EReal :=
  ∑ t : Fin 1024, (ind (hit a b a (exOf q) (q.val % 48) t) + ind (hit a b b (exOf q) (q.val % 48) t)) * x t

variable (hne : ∀ t, a t ≠ b t)

include hne in
/-- The row of a token's place is the token's row. -/
theorem sent_own (x : Fin 1024 → EReal) (q : Fin 6144) (t : Fin 1024)
    (h : hit a b a (exOf q) (q.val % 48) t ∨ hit a b b (exOf q) (q.val % 48) t) : sent a b x q = x t := by
  have hpos : ∀ s : Fin 1024, hit a b a (exOf q) (q.val % 48) s ∨ hit a b b (exOf q) (q.val % 48) s →
      0 < names a b (exOf q) s.val := by
    rintro s (⟨h1, _⟩ | ⟨h1, _⟩) <;> rw [names_eq, if_pos h1] <;> omega
  have hb : ∀ s : Fin 1024, hit a b a (exOf q) (q.val % 48) s ∨ hit a b b (exOf q) (q.val % 48) s →
      before a b (exOf q) s.val = q.val % 48 := by
    rintro s (⟨_, h1⟩ | ⟨_, h1⟩) <;> exact h1
  unfold sent
  rw [Finset.sum_eq_single t]
  · rcases h with h | h
    · have h' : ¬ hit a b b (exOf q) (q.val % 48) t := fun h2 => hne t (h.1.symm.trans h2.1)
      rw [ind, if_pos h, ind, if_neg h', add_zero, one_mul]
    · have h' : ¬ hit a b a (exOf q) (q.val % 48) t := fun h2 => hne t (h2.1.symm.trans h.1)
      rw [ind, if_neg h', ind, if_pos h, zero_add, one_mul]
  · intro s _ hst
    have hs : ¬ (hit a b a (exOf q) (q.val % 48) s ∨ hit a b b (exOf q) (q.val % 48) s) := fun hs =>
      hst (place_inj a b _ (hpos s hs) (hpos t h) ((hb s hs).trans (hb t h).symm))
    rw [not_or] at hs
    rw [ind, if_neg hs.1, ind, if_neg hs.2, add_zero, zero_mul]
  · intro hh; exact absurd (Finset.mem_univ _) hh

/-- Summing over the rows at which token `t` has its place by the column `v` picks the row of the expert named there. -/
theorem sum_hit (v : Fin 1024 → BitVec 32) (t : Fin 1024)
    (hv : ∀ e : Fin 128, BitVec.ofNat 32 e.val = v t → before a b e t.val < 48)
    (f : Fin 6144 → EReal) (r : Fin 128 → EReal) (hf : ∀ q, hit a b v (exOf q) (q.val % 48) t → f q = r (exOf q)) :
    (∑ q : Fin 6144, if hit a b v (exOf q) (q.val % 48) t then f q else 0) = pickW r (v t) := by
  unfold pickW
  split
  · rename_i h
    have hw : BitVec.ofNat 32 (⟨(v t).toNat, h⟩ : Fin 128).val = v t := (word_eq_iff ⟨(v t).toNat, h⟩ _).2 rfl
    have hp := hv ⟨(v t).toNat, h⟩ hw
    have hq : (v t).toNat * 48 + before a b ⟨(v t).toNat, h⟩ t.val < 6144 := by omega
    have he : exOf ⟨_, hq⟩ = ⟨(v t).toNat, h⟩ := Fin.ext (by
      show ((v t).toNat * 48 + before a b ⟨(v t).toNat, h⟩ t.val) / 48 = (v t).toNat; omega)
    have hh : hit a b v (exOf ⟨_, hq⟩) (((v t).toNat * 48 + before a b ⟨(v t).toNat, h⟩ t.val) % 48) t := by
      rw [he]; exact ⟨hw, by omega⟩
    rw [Finset.sum_eq_single ⟨_, hq⟩, if_pos hh, hf _ hh, he]
    · intro q _ hne'
      refine if_neg fun h2 => hne' (Fin.ext ?_)
      have h3 : exOf q = ⟨(v t).toNat, h⟩ := Fin.ext ((word_eq_iff _ _).1 h2.1)
      have h4 : q.val / 48 = (v t).toNat := congrArg Fin.val h3
      have h5 := h2.2
      rw [h3] at h5
      show q.val = (v t).toNat * 48 + before a b ⟨(v t).toNat, h⟩ t.val
      omega
    · intro h2; exact absurd (Finset.mem_univ _) h2
  · rename_i h
    exact Finset.sum_eq_zero fun q _ => if_neg fun hh : hit a b v (exOf q) (q.val % 48) t =>
      h ((word_eq_iff _ _).1 hh.1 ▸ (exOf q).isLt)

/-- A weight taken out of the pick. -/
theorem pickW_mul (w : EReal) (r : Fin 128 → EReal) (i : BitVec 32) : pickW (fun e => w * r e) i = w * pickW r i := by
  unfold pickW; split
  · rfl
  · rw [mul_zero]

include hne in
/-- Weighting and summing the rows that come back gives each token its two experts' rows, weighted. -/
theorem combine (hcap : ∀ e, before a b e 1024 ≤ 48) (x : Fin 1024 → Fin 256 → EReal) (w : Fin 128 → Fin 256 → EReal)
    (ga gb : EReal) (t : Fin 1024) :
    (∑ q : Fin 6144, (ind (hit a b a (exOf q) (q.val % 48) t) * ga + ind (hit a b b (exOf q) (q.val % 48) t) * gb)
        * ∑ k : Fin 256, sent a b (fun s => x s k) q * w (exOf q) k)
      = ga * pickW (fun e => ∑ k : Fin 256, x t k * w e k) (a t) + gb * pickW (fun e => ∑ k : Fin 256, x t k * w e k) (b t) := by
  have hva : ∀ e : Fin 128, BitVec.ofNat 32 e.val = a t → before a b e t.val < 48 := fun e h =>
    place_lt a b hcap e t (by rw [names_eq, if_pos h]; omega)
  have hvb : ∀ e : Fin 128, BitVec.ofNat 32 e.val = b t → before a b e t.val < 48 := fun e h =>
    place_lt a b hcap e t (by rw [names_eq, if_pos h]; omega)
  rw [← pickW_mul, ← pickW_mul,
    ← sum_hit a b a t hva (fun q => ga * ∑ k : Fin 256, sent a b (fun s => x s k) q * w (exOf q) k) _ fun q hq => by
      simp only [sent_own a b hne _ q t (.inl hq)],
    ← sum_hit a b b t hvb (fun q => gb * ∑ k : Fin 256, sent a b (fun s => x s k) q * w (exOf q) k) _ fun q hq => by
      simp only [sent_own a b hne _ q t (.inr hq)],
    ← Finset.sum_add_distrib]
  refine Finset.sum_congr rfl fun q _ => ?_
  by_cases ha : hit a b a (exOf q) (q.val % 48) t
  · have hb : ¬ hit a b b (exOf q) (q.val % 48) t := fun h2 => hne t (ha.1.symm.trans h2.1)
    rw [ind, if_pos ha, ind, if_neg hb, if_pos ha, if_neg hb, one_mul, zero_mul, add_zero, add_zero]
  · by_cases hb : hit a b b (exOf q) (q.val % 48) t
    · rw [ind, if_neg ha, ind, if_pos hb, if_neg ha, if_pos hb, one_mul, zero_mul, zero_add, zero_add]
    · rw [ind, if_neg ha, ind, if_neg hb, if_neg ha, if_neg hb, zero_mul, zero_mul, add_zero, zero_mul]

end Cert.MoeProof

end
-- ==== Proof.Pays.lean ====
/-
# What the kernel computes, element by element

The one-hot rows, the gate weights, the rows sent out, received, sent back, and the result, each read at an index over
the reals; at the end the result of a device as a formula of its tokens and of every device's experts.
-/
module

public import proofs.«01_k».proof.Proof.Count
public import proofs.«01_k».proof.Proof.Moe

@[expose] public section

noncomputable section

namespace Cert.MoeProof

open Cert.KernelIdeal Cert.KernelIdeal.Gen
open Idealize.ShloMosaic
open Idealize.ShloMosaic.TcCoe

/-- The column of words as a row. -/
abbrev colW (v : IVec S1024x1 32) : Fin 1024 → BitVec 32 := fun t => v (ix2 t 0)

theorem pay12_apply (v : IVec S1024x1 32) (e : Fin 128) (t : Fin 1024) :
    k0_pay12 v (ix2 e t) = if BitVec.ofNat 32 e.val = colW v t then 1#1 else 0#1 := by
  pointwise [k0_pay12]
  exact cmpi_eq _ _

theorem pay13_apply (v : IVec S1024x1 32) (e : Fin 128) (t : Fin 1024) :
    k0_pay13 v (ix2 e t) = if BitVec.ofNat 32 e.val = colW v t then 1#1 else 0#1 := by
  pointwise [k0_pay13]
  exact cmpi_eq _ _

/-- The counts are the numbers of times a token names an expert. -/
theorem pay14_apply (v w : IVec S1024x1 32) (e : Fin 128) (t : Fin 1024) :
    k0_pay14 v w (ix2 e t) = BitVec.ofNat 32 (names (colW v) (colW w) e t.val) := by
  rw [names_eq]
  pointwise [k0_pay14]
  rw [pay12_apply, pay13_apply]
  split_ifs <;> rfl

/-- The kernel's softmax of the router's scores. -/
theorem pay3_apply (x : Vec Ideal S1024x256 .f32) (w : Vec Ideal S256x128 .f32) (e : Fin 128) (t : Fin 1024) :
    k0_pay3 x w (ix2 t e) = prob (fun k => x (ix2 t k)) (fun k e' => w (ix2 k e')) e := by
  pointwise [k0_pay3, k0_pay1]
  rfl

theorem select_eq (p : Prop) [Decidable p] (x y : EReal) : Scalar.select (if p then 1#1 else 0#1) x y = if p then x else y := by
  split_ifs <;> rfl

/-- The score of the expert named in the first column. -/
theorem pay6_apply (x : Vec Ideal S1024x256 .f32) (w : Vec Ideal S256x128 .f32) (v : Vec Ideal S1024x1 .i32) (t : Fin 1024) :
    k0_pay6 x w v (ix2 t 0) = pickW (fun e => k0_pay3 x w (ix2 t e)) (colW v t) := by
  pointwise [k0_pay6, k0_pay4]
  simp only [cmpi_eq, select_eq]
  exact sum_pick _ _

/-- The score of the expert named in the second column. -/
theorem pay8_apply (x : Vec Ideal S1024x256 .f32) (w : Vec Ideal S256x128 .f32) (v : Vec Ideal S1024x1 .i32) (t : Fin 1024) :
    k0_pay8 (k0_pay7 x w v) (ix2 t 0) = pickW (fun e => k0_pay3 x w (ix2 t e)) (colW v t) := by
  pointwise [k0_pay8, k0_pay7, k0_pay5]
  simp only [cmpi_eq, select_eq]
  exact sum_pick _ _

/-- A bit made a number. -/
theorem sitofp_and (p q : Prop) [Decidable p] [Decidable q] :
    FloatOps.sitofp (F := Ideal) .f32 ((IntOp.andi (if p then 1#1 else 0#1) (if q then 1#1 else 0#1)).setWidth 32) = ind (p ∧ q) := by
  have h0 : ((0 : ℤ) : ℝ) = 0 := Int.cast_zero
  by_cases hp : p <;> by_cases hq : q <;> simp only [hp, hq, if_true, if_false, and_self, and_true, true_and, and_false, ind]
  · show (((1#32 : BitVec 32).toInt : ℝ) : EReal) = 1; simp
  · show (((0#32 : BitVec 32).toInt : ℝ) : EReal) = 0; simp
  · show (((0#32 : BitVec 32).toInt : ℝ) : EReal) = 0; simp
  · show (((0#32 : BitVec 32).toInt : ℝ) : EReal) = 0; simp

theorem pay17_hit (v w : IVec S1024x1 32) (e : Fin 128) (k : Fin 48) (t : Fin 1024) :
    k0_pay17 (k0_pay14 v w) (k0_pay15 v w) (k0_pay16 v w) (ix3 e k t)
      = if before (colW v) (colW w) e t.val = k.val then 1#1 else 0#1 :=
  pay17_apply (names (colW v) (colW w)) v w (pay14_apply v w) e k t
    (lt_of_le_of_lt (before_le (colW v) (colW w) e t.val) (by have := t.isLt; omega))

/-- One where the token has the place by the first column. -/
theorem pay18_apply (v w : IVec S1024x1 32) (e : Fin 128) (k : Fin 48) (t : Fin 1024) :
    k0_pay18 (F := Ideal) (k0_pay12 v) (k0_pay14 v w) (k0_pay15 v w) (k0_pay16 v w) (ix3 e k t)
      = ind (hit (colW v) (colW w) (colW v) e k.val t) := by
  pointwise [k0_pay18]
  rw [pay17_hit, pay12_apply]
  exact sitofp_and _ _

/-- One where the token has the place by the second column. -/
theorem pay19_apply (v w : IVec S1024x1 32) (e : Fin 128) (k : Fin 48) (t : Fin 1024) :
    k0_pay19 (F := Ideal) (k0_pay13 w) (k0_pay14 v w) (k0_pay15 v w) (k0_pay16 v w) (ix3 e k t)
      = ind (hit (colW v) (colW w) (colW w) e k.val t) := by
  pointwise [k0_pay19]
  rw [pay17_hit, pay13_apply]
  exact sitofp_and _ _

/-- The weights of the combining sum. -/
theorem pay20_apply (x y : FVec Ideal S1024x1 .f32) (v w : IVec S1024x1 32) (q : Fin 6144) (t : Fin 1024) :
    k0_pay20 x y (k0_pay12 v) (k0_pay13 w) (k0_pay14 v w) (k0_pay15 v w) (k0_pay16 v w) (ix2 q t)
      = ind (hit (colW v) (colW w) (colW v) (exOf q) (q.val % 48) t) * x (ix2 t 0)
        + ind (hit (colW v) (colW w) (colW w) (exOf q) (q.val % 48) t) * y (ix2 t 0) := by
  pointwise [k0_pay20]
  rw [pay18_apply, pay19_apply]
  rfl

/-- A row sent out is the sum of the tokens that have its place. -/
theorem pay21_apply (x : FVec Ideal S1024x256 .bf16) (v w : IVec S1024x1 32) (d : Fin 32) (r : Fin 192) (k : Fin 256)
    (q : Fin 6144) (hq : q.val = d.val * 192 + r.val) :
    k0_pay21 x (k0_pay12 v) (k0_pay13 w) (k0_pay14 v w) (k0_pay15 v w) (k0_pay16 v w) (ix3 d r k)
      = sent (colW v) (colW w) (fun t => x (ix2 t k)) q := by
  have hq' : q = ⟨d.val * 192 + r.val, hq ▸ q.isLt⟩ := Fin.ext hq
  pointwise [k0_pay21]
  simp only [pay18_apply, pay19_apply]
  rw [hq']
  rfl

/-- The result is the weighted sum of the rows that came back. -/
theorem pay30_apply (x : FVec Ideal S6144x1024 .bf16) (y : Vec Ideal S32x192x512 .bf16) (t : Fin 1024) (h : Fin 512) :
    k0_pay30 x y (ix2 t h)
      = ∑ q : Fin 6144, x (ix2 q t) * y (ix3 (⟨q.val / 192, by omega⟩ : Fin 32) (⟨q.val % 192, Nat.mod_lt _ (by decide)⟩ : Fin 192) h) := by
  pointwise [k0_pay30]

variable (m : (ℓ : Loc nD τ sig) → Buf (Elt Ideal) ℓ)

/-- The experts named by a device's tokens. -/
def wA (c : Dev nD) : Fin 1024 → BitVec 32 := colW (ixA m c)
def wB (c : Dev nD) : Fin 1024 → BitVec 32 := colW (ixB m c)

theorem selA_eq (c : Dev nD) : selA m c = k0_pay12 (ixA m c) := by unfold selA k0_pay4; rw [shapeCast_self]
theorem selB_eq (c : Dev nD) : selB m c = k0_pay13 (ixB m c) := by unfold selB k0_pay5; rw [shapeCast_self]
theorem cnt_eq (c : Dev nD) : cnt m c = k0_pay14 (ixA m c) (ixB m c) := by
  unfold cnt k0_pay4 k0_pay5; rw [shapeCast_self, shapeCast_self]
theorem sumA_eq (c : Dev nD) : sumA m c = k0_pay15 (ixA m c) (ixB m c) := by
  unfold sumA k0_pay4 k0_pay5; rw [shapeCast_self, shapeCast_self]
theorem sumB_eq (c : Dev nD) : sumB m c = k0_pay16 (ixA m c) (ixB m c) := by
  unfold sumB k0_pay4 k0_pay5; rw [shapeCast_self, shapeCast_self]

/-- The rows a device sends to another. -/
theorem dispV_apply (c : Dev nD) (d : Fin 32) (r : Fin 192) (k : Fin 256) (q : Fin 6144) (hq : q.val = d.val * 192 + r.val) :
    dispV m c (ix3 d r k) = sent (wA m c) (wB m c) (fun t => xs m c (ix2 t k)) q := by
  unfold dispV
  rw [selA_eq, selB_eq, cnt_eq, sumA_eq, sumB_eq, pay21_apply _ _ _ d r k q hq]
  congr 1
  funext t
  pointwise [k0_pay2, k0_pay1]

/-- The rows a device receives. -/
theorem recvV_apply (c : Dev nD) (s : Fin 32) (r : Fin 192) (k : Fin 256) : recvV m c (ix3 s r k) = dispV m s (ix3 c r k) := by
  unfold recvV
  congr 1
  funext a
  match a with
  | ⟨0, _⟩ => rfl
  | ⟨1, _⟩ => rfl
  | ⟨2, _⟩ => rfl

/-- A part of the results sent back: the received rows times the expert's weights. -/
theorem retPart_apply (c : Dev nD) (p : Fin 4) (s : Fin 32) (r : Fin 48) (h : Fin 512) :
    retPart m c p (ix3 s r h)
      = ∑ k : Fin 256, recvV m c (ix3 s ⟨48 * p.val + r.val, by omega⟩ k) * es m c (ix3 p k h) := by
  match p with
  | 0 => unfold retPart; pointwise [k0_pay24, k0_pay23]
  | 1 => unfold retPart; pointwise [k0_pay25, k0_pay23]
  | 2 => unfold retPart; pointwise [k0_pay26, k0_pay27, k0_pay23]
  | 3 => unfold retPart; pointwise [k0_pay28, k0_pay23]

/-- The results sent back. -/
theorem retV_apply (c : Dev nD) (s : Fin 32) (r : Fin 192) (h : Fin 512) :
    retV m c (ix3 s r h)
      = ∑ k : Fin 256, recvV m c (ix3 s r k) * es m c (ix3 (⟨r.val / 48, by omega⟩ : Fin 4) k h) := by
  have hi : inPart (ix3 s r h) = ix3 s (⟨r.val % 48, Nat.mod_lt _ (by decide)⟩ : Fin 48) h := by
    funext a
    match a with
    | ⟨0, _⟩ => rfl
    | ⟨1, _⟩ => rfl
    | ⟨2, _⟩ => rfl
  have hp : partOf (ix3 s r h) = (⟨r.val / 48, by omega⟩ : Fin 4) := rfl
  unfold retV
  rw [hi, hp, retPart_apply]
  have hr : (⟨48 * (r.val / 48) + r.val % 48, by omega⟩ : Fin 192) = r := Fin.ext (by show 48 * (r.val / 48) + r.val % 48 = r.val; omega)
  simp only [hr]

/-- The results received. -/
theorem retrV_apply (c : Dev nD) (d : Fin 32) (r : Fin 192) (h : Fin 512) : retrV m c (ix3 d r h) = retV m d (ix3 c r h) := by
  unfold retrV
  congr 1
  funext a
  match a with
  | ⟨0, _⟩ => rfl
  | ⟨1, _⟩ => rfl
  | ⟨2, _⟩ => rfl

/-- A device's tokens. -/
def xV (c : Dev nD) (t : Fin 1024) (k : Fin 256) : EReal := xs m c (ix2 t k)

/-- Expert `e`'s weights, at the device that holds it. -/
def wE (e : Fin 128) (k : Fin 256) (h : Fin 512) : EReal :=
  es m (⟨e.val / 4, by omega⟩ : Fin 32) (ix3 (⟨e.val % 4, Nat.mod_lt _ (by decide)⟩ : Fin 4) k h)

/-- The result of a device: the two experts' rows of each token, weighted. -/
theorem outV_apply (c : Dev nD) (hne : ∀ t, wA m c t ≠ wB m c t) (hcap : ∀ e, before (wA m c) (wB m c) e 1024 ≤ 48)
    (t : Fin 1024) (h : Fin 512) :
    outV m c (ix2 t h)
      = gA m c (ix2 t 0) * pickW (fun e => ∑ k : Fin 256, xV m c t k * wE m e k h) (wA m c t)
        + gB m c (ix2 t 0) * pickW (fun e => ∑ k : Fin 256, xV m c t k * wE m e k h) (wB m c t) := by
  rw [← combine (wA m c) (wB m c) hne hcap (xV m c) (fun e k => wE m e k h)]
  refine (pay30_apply (gateV m c) (retrV m c) t h).trans ?_
  refine Finset.sum_congr rfl fun q _ => ?_
  unfold gateV
  rw [selA_eq, selB_eq, cnt_eq, sumA_eq, sumB_eq, pay20_apply, retrV_apply, retV_apply]
  congr 1
  refine Finset.sum_congr rfl fun k _ => ?_
  have hq := q.isLt
  rw [recvV_apply, dispV_apply m c _ _ k q (by show q.val = q.val / 192 * 192 + q.val % 192; omega)]
  have hd : (⟨q.val / 192, by omega⟩ : Fin 32) = ⟨(exOf q).val / 4, by omega⟩ :=
    Fin.ext (by show q.val / 192 = q.val / 48 / 4; omega)
  have he : (⟨q.val % 192 / 48, by omega⟩ : Fin 4) = ⟨(exOf q).val % 4, Nat.mod_lt _ (by decide)⟩ :=
    Fin.ext (by show q.val % 192 / 48 = q.val / 48 % 4; omega)
  unfold wE
  rw [← hd, ← he]
  rfl

/-- The weights of a token's two experts. -/
theorem gA_apply (c : Dev nD) (t : Fin 1024) :
    gA m c (ix2 t 0) = Ideal.div (pickW (fun e => k0_pay3 (xs m c) (ws m c) (ix2 t e)) (wA m c t))
      (pickW (fun e => k0_pay3 (xs m c) (ws m c) (ix2 t e)) (wA m c t) + pickW (fun e => k0_pay3 (xs m c) (ws m c) (ix2 t e)) (wB m c t)) := by
  unfold gA
  pointwise [k0_pay10, k0_pay9]
  rw [pay6_apply, pay8_apply]
  rfl

theorem gB_apply (c : Dev nD) (t : Fin 1024) :
    gB m c (ix2 t 0) = Ideal.div (pickW (fun e => k0_pay3 (xs m c) (ws m c) (ix2 t e)) (wB m c t))
      (pickW (fun e => k0_pay3 (xs m c) (ws m c) (ix2 t e)) (wA m c t) + pickW (fun e => k0_pay3 (xs m c) (ws m c) (ix2 t e)) (wB m c t)) := by
  unfold gB
  pointwise [k0_pay11, k0_pay9]
  rw [pay6_apply, pay8_apply]
  rfl

end Cert.MoeProof

end
-- ==== Proof.Ref.lean ====
/-
# What the reference computes, element by element
-/
module

public import proofs.«01_k».proof.Proof.Moe
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.MoeProof.Ref

open Cert.ReferenceIdeal Cert.ReferenceIdeal.Gen Cert.ReferenceIdeal.Value Cert.ReferenceIdeal.Read
open Idealize.ShloMosaic
open Idealize.ShloMosaic.TcCoe

/-- A row's element chosen by a word, as the reference gathers it: the word clamped into the row. -/
theorem gather_row (p : FVec Ideal S32768x128 .f32) (i : IVec S32768x2x1 32) (t : Fin 32768) (j : Fin 2) :
    Host.gather gather_S32768x128_S32768x2x1_S32768x2_n_1_0_0_1_2_11 p i (ix2 t j)
      = p (ix2 t (⟨min (i (ix3 t j 0)).toInt.toNat 127, by omega⟩ : Fin 128)) := by
  unfold Host.gather
  congr 1
  funext a
  refine Fin.ext ?_
  show GatherDims.start _ _ _ _ + GatherDims.batchCoord _ _ _ + GatherDims.offCoord _ _ _ = _
  unfold GatherDims.start GatherDims.batchCoord GatherDims.offCoord
  match a with
  | ⟨0, _⟩ =>
    rw [dif_neg (by decide +revert), dif_pos (by decide +revert), dif_neg (by decide +revert)]
    simp only [Nat.zero_add, Nat.add_zero]
    rfl
  | ⟨1, _⟩ =>
    rw [dif_pos (by decide +revert), dif_neg (by decide +revert), dif_neg (by decide +revert)]
    have hs : ∀ h, GatherDims.siIdx gather_S32768x128_S32768x2x1_S32768x2_n_1_0_0_1_2_11 (ix2 t j) ⟨0, h⟩ = ix3 t j 0 := fun h => by
      funext b
      match b with
      | ⟨0, _⟩ => rfl
      | ⟨1, _⟩ => rfl
      | ⟨2, _⟩ => rfl
    exact congrArg (fun q => min (i q).toInt.toNat 127) (hs _)

/-- An expert's weights chosen by a word, likewise. -/
theorem gather_exp (p : FVec Ideal S128x256x512 .f32) (i : IVec S32768x1 32) (t : Fin 32768) (k : Fin 256) (h : Fin 512) :
    Host.gather gather_S128x256x512_S32768x1_S32768x256x512_12_0_n_n_0_1_1256512 p i (ix3 t k h)
      = p (ix3 (⟨min (i (ix2 t 0)).toInt.toNat 127, by omega⟩ : Fin 128) k h) := by
  unfold Host.gather
  congr 1
  funext a
  refine Fin.ext ?_
  show GatherDims.start _ _ _ _ + GatherDims.batchCoord _ _ _ + GatherDims.offCoord _ _ _ = _
  unfold GatherDims.start GatherDims.batchCoord GatherDims.offCoord
  match a with
  | ⟨0, _⟩ =>
    rw [dif_pos (by decide +revert), dif_neg (by decide +revert), dif_neg (by decide +revert)]
    have hs : ∀ h', GatherDims.siIdx gather_S128x256x512_S32768x1_S32768x256x512_12_0_n_n_0_1_1256512 (ix3 t k h) ⟨0, h'⟩ = ix2 t 0 := fun h' => by
      funext b
      match b with
      | ⟨0, _⟩ => rfl
      | ⟨1, _⟩ => rfl
    exact congrArg (fun q => min (i q).toInt.toNat 127) (hs _)
  | ⟨1, _⟩ =>
    rw [dif_neg (by decide +revert), dif_neg (by decide +revert), dif_pos (by decide +revert)]
    simp only [Nat.zero_add, Nat.add_zero]
    rfl
  | ⟨2, _⟩ =>
    rw [dif_neg (by decide +revert), dif_neg (by decide +revert), dif_pos (by decide +revert)]
    simp only [Nat.zero_add, Nat.add_zero]
    rfl

/-- A mask's axis of size one folded away: the element, and the initial value. -/
theorem mask_row (x : IVec S32768x2x1 1) (i : IVec S_ 1) (t : Fin 32768) (j : Fin 2) :
    Host.reduce IntOp.andi x i reducesTo_S32768x2x1_S32768x2_d2 h_S_ (ix2 t j)
      = IntOp.andi (x (ix3 t j 0)) (i (Shape.Idx.first h_S_)) := by
  pointwise
  rw [show (Finset.univ : Finset (Fin 1)) = {0} from rfl, Finset.fold_singleton]

theorem mask_exp (x : IVec S32768x1 1) (i : IVec S_ 1) (t : Fin 32768) :
    Host.reduce IntOp.andi x i reducesTo_S32768x1_S32768_d1 h_S_ (ix1 t)
      = IntOp.andi (x (ix2 t 0)) (i (Shape.Idx.first h_S_)) := by
  pointwise
  rw [show (Finset.univ : Finset (Fin 1)) = {0} from rfl, Finset.fold_singleton]

/-- A word between 0 and 127 as a signed number is one below 128. -/
theorem in_range (w : BitVec 32) :
    IntOp.andi (IntOp.andi (IntOp.cmpi .sge w 0#32) (IntOp.cmpi .sle w 127#32)) 1#1 = if w.toNat < 128 then 1#1 else 0#1 := by
  have h1 : w.toInt = if 2 * w.toNat < 2 ^ 32 then (w.toNat : ℤ) else (w.toNat : ℤ) - 2 ^ 32 := BitVec.toInt_eq_toNat_cond w
  have hw := w.isLt
  have e1 : IntOp.cmpi .sge w 0#32 = BitVec.ofBool (decide (0 ≤ w.toInt)) := rfl
  have e2 : IntOp.cmpi .sle w 127#32 = BitVec.ofBool (decide (w.toInt ≤ 127)) := rfl
  rw [e1, e2]
  by_cases h : w.toNat < 128
  · have a1 : 0 ≤ w.toInt := by rw [h1, if_pos (by omega)]; omega
    have a2 : w.toInt ≤ 127 := by rw [h1, if_pos (by omega)]; omega
    simp only [if_pos h, a1, a2, decide_true]; rfl
  · rw [if_neg h]
    by_cases h2 : 2 * w.toNat < 2 ^ 32
    · have a2 : ¬ w.toInt ≤ 127 := by rw [h1, if_pos h2]; omega
      simp only [a2, decide_false]
      cases decide (0 ≤ w.toInt) <;> rfl
    · have a2 : ¬ 0 ≤ w.toInt := by rw [h1, if_neg h2]; omega
      simp only [a2, decide_false]
      cases decide (w.toInt ≤ 127) <;> rfl

/-- Reading at the clamped word under the mask is picking. -/
theorem pick_eq (p : Fin 128 → EReal) (w : BitVec 32) :
    Scalar.select (if w.toNat < 128 then 1#1 else 0#1) (p (⟨min w.toInt.toNat 127, by omega⟩ : Fin 128)) 0 = pickW p w := by
  unfold pickW
  split
  · rename_i h
    have h1 : w.toInt = (w.toNat : ℤ) := by
      rw [BitVec.toInt_eq_toNat_cond, if_pos (by omega)]
    show p _ = p _
    congr 1
    apply Fin.ext
    show min w.toInt.toNat 127 = w.toNat
    rw [h1]; omega
  · rfl

/-- The reference's softmax. -/
theorem probs_apply (x : FVec Ideal S32768x256 .f32) (w : FVec Ideal S256x128 .f32) (e : Fin 128) (t : Fin 32768) :
    val_main_v9 (F := Ideal) x w (ix2 t e) = prob (fun k => x (ix2 t k)) (fun k e' => w (ix2 k e')) e := by
  pointwise [val_main_v9, val_main_v8, val_main_v7, val_main_v6, val_main_v5, val_main_v4, val_main_v3, val_main_v2, val_main_v1, val_main_v0, val_main_cst, val_main_cst_0]
  rfl

/-- The score of the expert in column `j`. -/
theorem score_apply (x : FVec Ideal S32768x256 .f32) (w : FVec Ideal S256x128 .f32) (r : IVec S32768x2 32) (t : Fin 32768) (j : Fin 2) :
    val_main_v24 (F := Ideal) x w r (ix2 t j) = pickW (prob (fun k => x (ix2 t k)) (fun k e' => w (ix2 k e'))) (r (ix2 t j)) := by
  have hm : val_main_v21 (F := Ideal) r (ix2 t j) = if (r (ix2 t j)).toNat < 128 then 1#1 else 0#1 := by
    unfold val_main_v21
    rw [mask_row, ← in_range]
    pointwise [val_main_v20, val_main_v19, val_main_v18, val_main_v17, val_main_v16, val_main_v15, val_main_v14, val_main_c, val_main_c_1, val_main_c_2]
  have hg : val_main_v22 (F := Ideal) x w r (ix2 t j)
      = prob (fun k => x (ix2 t k)) (fun k e' => w (ix2 k e')) (⟨min (r (ix2 t j)).toInt.toNat 127, by omega⟩ : Fin 128) := by
    unfold val_main_v22
    have hi : val_main_v14 (F := Ideal) r (ix3 t j 0) = r (ix2 t j) := by pointwise [val_main_v14]
    rw [gather_row, probs_apply]
    simp only [hi]
  rw [← pick_eq]
  pointwise [val_main_v24, val_main_v23, val_main_cst_3]
  rw [hm, hg]

/-- The weights of the expert in the first column. -/
theorem expert0_apply (r : IVec S32768x2 32) (E : FVec Ideal S128x256x512 .f32) (t : Fin 32768) (k : Fin 256) (h : Fin 512) :
    val_main_v41 (F := Ideal) r E (ix3 t k h) = pickW (fun e => E (ix3 e k h)) (r (ix2 t 0)) := by
  have hm : val_main_v37 (F := Ideal) r (ix1 t) = if (r (ix2 t 0)).toNat < 128 then 1#1 else 0#1 := by
    unfold val_main_v37
    rw [mask_exp, ← in_range]
    pointwise [val_main_v36, val_main_v35, val_main_v34, val_main_v33, val_main_v32, val_main_v31, val_main_v30, val_main_v11, val_main_v10, val_main_c_4, val_main_c_5, val_main_c_6]
  have hg : val_main_v38 (F := Ideal) r E (ix3 t k h) = E (ix3 (⟨min (r (ix2 t 0)).toInt.toNat 127, by omega⟩ : Fin 128) k h) := by
    unfold val_main_v38
    have hi : val_main_v30 (F := Ideal) r (ix2 t 0) = r (ix2 t 0) := by pointwise [val_main_v30, val_main_v11, val_main_v10]
    rw [gather_exp]
    simp only [hi]
  rw [← pick_eq]
  pointwise [val_main_v41, val_main_v40, val_main_v39, val_main_cst_7]
  rw [hm, hg]

/-- The weights of the expert in the second column. -/
theorem expert1_apply (r : IVec S32768x2 32) (E : FVec Ideal S128x256x512 .f32) (t : Fin 32768) (k : Fin 256) (h : Fin 512) :
    val_main_v54 (F := Ideal) r E (ix3 t k h) = pickW (fun e => E (ix3 e k h)) (r (ix2 t 1)) := by
  have hm : val_main_v50 (F := Ideal) r (ix1 t) = if (r (ix2 t 1)).toNat < 128 then 1#1 else 0#1 := by
    unfold val_main_v50
    rw [mask_exp, ← in_range]
    pointwise [val_main_v49, val_main_v48, val_main_v47, val_main_v46, val_main_v45, val_main_v44, val_main_v43, val_main_v13, val_main_v12, val_main_c_8, val_main_c_9, val_main_c_10]
  have hg : val_main_v51 (F := Ideal) r E (ix3 t k h) = E (ix3 (⟨min (r (ix2 t 1)).toInt.toNat 127, by omega⟩ : Fin 128) k h) := by
    unfold val_main_v51
    have hi : val_main_v43 (F := Ideal) r (ix2 t 0) = r (ix2 t 1) := by pointwise [val_main_v43, val_main_v13, val_main_v12]
    rw [gather_exp]
    simp only [hi]
  rw [← pick_eq]
  pointwise [val_main_v54, val_main_v53, val_main_v52, val_main_cst_11]
  rw [hm, hg]

/-- A product with picked weights is the picked product. -/
theorem sum_pickW (x : Fin 256 → EReal) (E : Fin 128 → Fin 256 → EReal) (i : BitVec 32) :
    (∑ k, x k * pickW (fun e => E e k) i) = pickW (fun e => ∑ k, x k * E e k) i := by
  unfold pickW
  split
  · rfl
  · simp only [mul_zero, Finset.sum_const_zero]

/-- The reference's result: the two experts' rows of each token, weighted. -/
theorem result_apply (x : FVec Ideal S32768x256 .f32) (w : FVec Ideal S256x128 .f32) (r : IVec S32768x2 32)
    (E : FVec Ideal S128x256x512 .f32) (t : Fin 32768) (h : Fin 512) (p : Fin 128 → EReal)
    (hp : p = prob (fun k => x (ix2 t k)) (fun k e' => w (ix2 k e'))) :
    val_main_v64 (F := Ideal) x w r E (ix2 t h)
      = Ideal.div (pickW p (r (ix2 t 0))) (pickW p (r (ix2 t 0)) + pickW p (r (ix2 t 1)))
            * pickW (fun e => ∑ k : Fin 256, x (ix2 t k) * E (ix3 e k h)) (r (ix2 t 0))
        + Ideal.div (pickW p (r (ix2 t 1))) (pickW p (r (ix2 t 0)) + pickW p (r (ix2 t 1)))
            * pickW (fun e => ∑ k : Fin 256, x (ix2 t k) * E (ix3 e k h)) (r (ix2 t 1)) := by
  subst hp
  pointwise [val_main_v64, val_main_v63, val_main_v62, val_main_v61, val_main_v60, val_main_v59, val_main_v58, val_main_v57, val_main_v56, val_main_v55, val_main_v42, val_main_v29, val_main_v28, val_main_v27, val_main_v26, val_main_v25]
  simp only [score_apply, expert0_apply, expert1_apply]
  rw [sum_pickW (fun k => x (ix2 t k)) (fun e k => E (ix3 e k h)), sum_pickW (fun k => x (ix2 t k)) (fun e k => E (ix3 e k h))]

end Cert.MoeProof.Ref

end
-- ==== Proof.Drop.lean ====
/-
# What the precondition says
-/
module

public import proofs.«01_k».proof.Defs
public import proofs.«01_k».proof.Proof.Moe
public import Idealize.ShloMosaic.Lib.ReduceAll

@[expose] public section

noncomputable section

namespace Cert.MoeProof

open Cert.Pre_dropless_KernelIdeal
open Idealize.ShloMosaic

instance factsK : Cert.Pre_dropless_KernelIdeal.Facts where
  bcast_S1024x2_S1024x2x1_0_1 := by decide
  bcast_S128_S1x1x128_2 := by decide
  bcast_S1024x2x1_S1024x2x128_0_1_2 := by decide
  bcast_S1x1x128_S1024x2x128_0_1_2 := by decide
  natLt_1_32 := by decide
  slices_S1024x2_S1024x1_0_0 := by decide
  shapeCasts_S1024x1_S1024 := by decide
  slices_S1024x2_S1024x1_0_1 := by decide
  reducesTo_S1024_S_d0 := by decide
  h_S_ := by decide
  reducesTo_S1024x2x128_S128_d0_1 := by decide
  bcast_S_S128 := by decide
  reducesTo_S128_S_d0 := by decide

instance factsR : Cert.Pre_dropless_ReferenceIdeal.Facts where
  bcast_S32768x2_S32768x2x1_0_1 := by decide
  bcast_S128_S1x1x128_2 := by decide
  bcast_S32768x2x1_S32768x2x128_0_1_2 := by decide
  bcast_S1x1x128_S32768x2x128_0_1_2 := by decide
  natLt_1_32 := by decide
  slices_S32768x2_S32768x1_0_0 := by decide
  shapeCasts_S32768x1_S32768 := by decide
  slices_S32768x2_S32768x1_0_1 := by decide
  reducesTo_S32768_S_d0 := by decide
  h_S_ := by decide
  reducesTo_S32768x2x128_S128_d0_1 := by decide
  bcast_S_S128 := by decide
  reducesTo_S128_S_d0 := by decide

instance : Subsingleton S_.Idx := ⟨fun _ _ => funext fun z => z.elim0⟩

/-- Where the precondition holds a token's two experts differ. -/
theorem differ_of_pre (x : FVec Ideal S1024x256 .f32) (w : FVec Ideal S256x128 .f32) (r : IVec S1024x2 32) (E : FVec Ideal S4x256x512 .f32)
    (h : (fn (F := Ideal) x w r E).1 = fun _ => 1#1) (t : Fin 1024) : r (ix2 t 0) ≠ r (ix2 t 1) := by
  have h1 := Host.reduce_andi_all _ _ _ _ ix0 (congrFun h ix0) (ix1 t)
  pointwise at h1
  intro hh
  rw [hh] at h1
  simp [IntOp.cmpi] at h1

/-- Adding up words is adding up numbers. -/
theorem fold_addi {ι : Type} [DecidableEq ι] (S : Finset ι) (f : ι → BitVec 32) (n : ι → ℕ) (hf : ∀ i, f i = BitVec.ofNat 32 (n i)) :
    Finset.fold IntOp.addi (0#32) f S = BitVec.ofNat 32 (∑ i ∈ S, n i) := by
  induction S using Finset.induction_on with
  | empty => rfl
  | insert a S ha ih =>
    rw [Finset.fold_insert ha, Finset.sum_insert ha, ih, hf, BitVec.ofNat_add]
    rfl

/-- One when the token's expert in the column is `e`. -/
def one (r : IVec S1024x2 32) (t : Fin 1024) (j : Fin 2) (e : Fin 128) : ℕ := if BitVec.ofNat 32 e.val = r (ix2 t j) then 1 else 0

/-- The entries of the mask that count for expert `e` add up to the number of times it is named. -/
theorem sum_entries (r : IVec S1024x2 32) (h : S1024x2x128.ReducesTo [0, 1] S128) (e : Fin 128) :
    (∑ i ∈ Finset.univ.filter (fun i : S1024x2x128.Idx => h.drop i = ix1 e), one r (i 0) (i 1) (i 2))
      = before (fun t => r (ix2 t 0)) (fun t => r (ix2 t 1)) e 1024 := by
  have hd : ∀ i : S1024x2x128.Idx, h.drop i = ix1 e ↔ i 2 = e := fun i => by
    have hv : (h.drop i 0 : Nat) = i 2 := Shape.ReducesTo.drop_apply_val_of_eq h i 0 2
    constructor
    · intro hh; rw [hh] at hv; exact Fin.ext hv.symm
    · intro hh; funext c
      match c with
      | 0 => exact Fin.ext (hv.trans (congrArg Fin.val hh))
  rw [Finset.sum_filter, sum_idx3]
  unfold before
  rw [Finset.sum_range]
  refine Finset.sum_congr rfl fun t _ => ?_
  rw [names_eq, Fin.sum_univ_two]
  have hj : ∀ j : Fin 2, (∑ e' : Fin 128, if h.drop (ix3 t j e') = ix1 e then one r t j e' else 0) = one r t j e := fun j => by
    rw [Finset.sum_eq_single e]
    · exact if_pos ((hd _).2 rfl)
    · intro e' _ hne; exact if_neg fun hh => hne ((hd _).1 hh)
    · intro hh; exact absurd (Finset.mem_univ _) hh
  exact congrArg₂ (· + ·) (hj 0) (hj 1)

/-- Where the precondition holds no expert is named more than 48 times by a device's tokens. -/
theorem count_of_pre (x : FVec Ideal S1024x256 .f32) (w : FVec Ideal S256x128 .f32) (r : IVec S1024x2 32) (E : FVec Ideal S4x256x512 .f32)
    (h : (fn (F := Ideal) x w r E).2 = fun _ => 1#1) (e : Fin 128) :
    before (fun t => r (ix2 t 0)) (fun t => r (ix2 t 1)) e 1024 ≤ 48 := by
  have h1 := Host.reduce_andi_all _ _ _ _ ix0 (congrFun h ix0) (ix1 e)
  pointwise at h1
  rw [fold_addi _ _ (fun i : S1024x2x128.Idx => one r (i 0) (i 1) (i 2)) fun i => by
    show BitVec.setWidth 32 (IntOp.cmpi .eq (r (ix2 (i 0) (i 1))) (BitVec.ofNat 32 (i 2).val)) = _
    unfold one
    by_cases hh : BitVec.ofNat 32 (i 2).val = r (ix2 (i 0) (i 1))
    · rw [if_pos hh, ← hh]; simp [IntOp.cmpi]
    · rw [if_neg hh]; simp [IntOp.cmpi, beq_eq_false_iff_ne.2 (Ne.symm hh)], sum_entries] at h1
  have hb := before_le (fun t => r (ix2 t 0)) (fun t => r (ix2 t 1)) e 1024
  generalize before (fun t => r (ix2 t 0)) (fun t => r (ix2 t 1)) e 1024 = n at h1 hb ⊢
  have h2 : BitVec.ofBool (decide ((BitVec.ofNat 32 n).toInt ≤ 48)) = 1#1 := h1
  have h3 : (BitVec.ofNat 32 n).toInt = n := by
    rw [BitVec.toInt_eq_toNat_cond, BitVec.toNat_ofNat, if_pos (by omega)]; omega
  by_contra hn
  have h4 : decide ((BitVec.ofNat 32 n).toInt ≤ 48) = false := decide_eq_false (by omega)
  rw [h4] at h2
  exact absurd h2 (by decide)

end Cert.MoeProof

end
-- ==== Proof.Value.lean ====
/-
# The result of the program over the reals

Device `c`'s result is block `c` of the reference's result.
-/
module

public import proofs.«01_k».proof.Proof.Frames
public import proofs.«01_k».proof.Proof.Pays
public import proofs.«01_k».proof.Proof.Ref
public import proofs.«01_k».proof.Proof.Drop

@[expose] public section

noncomputable section

namespace Cert.MoeProof

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-! ## The windows are the whole arrays -/

/-- The rows of a device are its first argument. -/
theorem xs_eq (c : Dev nD) : xs m c = m ((c : Thread nD τ).loc main_arg0) :=
  Memref.read_access_unit_zero (Elt Ideal) main_arg0 (funext fun a => Nat.zero_mul _) _ _
/-- The router's weights are its second argument. -/
theorem ws_eq (c : Dev nD) : ws m c = m ((c : Thread nD τ).loc main_arg1) :=
  Memref.read_access_unit_zero (Elt Ideal) main_arg1 (funext fun a => Nat.zero_mul _) _ _
/-- The expert numbers are its third argument. -/
theorem ix_eq (c : Dev nD) : ix m c = m ((c : Thread nD τ).loc main_arg2) :=
  Memref.read_access_unit_zero (Elt Ideal) main_arg2 (funext fun a => Nat.zero_mul _) _ _
/-- The experts' weights are its fourth argument. -/
theorem es_eq (c : Dev nD) : es m c = m ((c : Thread nD τ).loc main_arg3) :=
  Memref.read_access_unit_zero (Elt Ideal) main_arg3 (funext fun a => Nat.zero_mul _) _ _

/-- The first expert named by token `t`. -/
theorem wA_eq (c : Dev nD) (t : Fin 1024) : wA m c t = ix m c (ix2 t 0) :=
  congrArg (ix m c) (by funext a; fin_cases a <;> exact Fin.ext (by simp [Rect.emb, ix2]))
/-- The second expert named by token `t`. -/
theorem wB_eq (c : Dev nD) (t : Fin 1024) : wB m c t = ix m c (ix2 t 1) :=
  congrArg (ix m c) (by funext a; fin_cases a <;> exact Fin.ext (by simp [Rect.emb, ix2]))

/-- The result array at the end holds what the body left in the result's window. -/
theorem final_out (c : Dev nD) : finalA m ρ c (4 : Fin 5) = outV m c := by
  have hw : ((cfg0.win 4).blk t0_0).view.read (Elt Ideal) ((dats m ρ 0 c).arrAt (4 : Fin 5) cfg0.N) = (dats m ρ 0 c).flushed (4 : Fin 5) t0_0 := by
    rw [show cfg0.N = t0_0.val + 1 from rfl, (dats m ρ 0 c).arrAt_succ (4 : Fin 5) t0_0, if_pos (by rfl)]
    exact View.read_write_univ _ _
  exact (Memref.read_access_unit_zero (Elt Ideal) main_v1 (funext fun a => Nat.zero_mul _) _ _).symm.trans hw

/-! ## Blocks of the whole arrays -/

/-- Token `t` of device `c`, among all tokens. -/
def row (c : Fin 32) (t : Fin 1024) : Fin 32768 := ⟨c.val * 1024 + t.val, by omega⟩

/-- Row `t` of block `c` is row `row c t` of the whole. -/
theorem block_rows {α : Type} {n : Nat} (c : Fin 32) (v : (⟨2, ![32768, n]⟩ : Shape).Idx → α)
    (h : Layout.Tiles ⟨2, ![1024, n]⟩ ⟨2, ![32768, n]⟩ 0 32) (t : Fin 1024) (k : Fin n) :
    Layout.block ⟨2, ![1024, n]⟩ ⟨2, ![32768, n]⟩ 0 32 c v h (ix2 t k) = v (ix2 (row c t) k) := by
  rw [Layout.block_apply]
  exact congrArg v (funext fun a => by fin_cases a <;> rfl)

/-- Expert `e` is number `e % 4` in block `e / 4`. -/
theorem block_experts {α : Type} (v : (⟨3, ![128, 256, 512]⟩ : Shape).Idx → α)
    (h : Layout.Tiles ⟨3, ![4, 256, 512]⟩ ⟨3, ![128, 256, 512]⟩ 0 32) (e : Fin 128) (k : Fin 256) (l : Fin 512) :
    Layout.block ⟨3, ![4, 256, 512]⟩ ⟨3, ![128, 256, 512]⟩ 0 32 (⟨e.val / 4, by omega⟩ : Fin 32) v h
      (ix3 (⟨e.val % 4, Nat.mod_lt _ (by decide)⟩ : Fin 4) k l) = v (ix3 e k l) := by
  rw [Layout.block_apply]
  refine congrArg v (funext fun a => ?_)
  fin_cases a
  · exact Fin.ext (Nat.div_add_mod' e.val 4)
  · rfl
  · rfl

/-- If every device holds its part of the whole arrays, and its tokens name two different experts each and no expert
    more than forty-eight times, then its result is its part of the reference's result. -/
theorem out_block (X : FVec Ideal Cert.ReferenceIdeal.S32768x256 .f32) (W : FVec Ideal Cert.ReferenceIdeal.S256x128 .f32)
    (R : IVec Cert.ReferenceIdeal.S32768x2 32) (E : FVec Ideal Cert.ReferenceIdeal.S128x256x512 .f32)
    (hx : ∀ c : Dev nD, xs m c = Layout.block ⟨2, ![1024, 256]⟩ ⟨2, ![32768, 256]⟩ 0 32 c X)
    (hw : ∀ c : Dev nD, ws m c = W)
    (hr : ∀ c : Dev nD, ix m c = Layout.block ⟨2, ![1024, 2]⟩ ⟨2, ![32768, 2]⟩ 0 32 c R)
    (he : ∀ c : Dev nD, es m c = Layout.block ⟨3, ![4, 256, 512]⟩ ⟨3, ![128, 256, 512]⟩ 0 32 c E)
    (c : Dev nD) (hne : ∀ t, wA m c t ≠ wB m c t) (hcap : ∀ e, before (wA m c) (wB m c) e 1024 ≤ 48) :
    outV m c = Layout.block ⟨2, ![1024, 512]⟩ ⟨2, ![32768, 512]⟩ 0 32 c (Cert.ReferenceIdeal.Read.val_main_v64 (F := Ideal) X W R E) := by
  have hX : ∀ t k, xs m c (ix2 t k) = X (ix2 (row c t) k) := fun t k => (congrFun (hx c) _).trans (block_rows c X _ t k)
  have hA : ∀ t, wA m c t = R (ix2 (row c t) 0) := fun t => (wA_eq m c t).trans ((congrFun (hr c) _).trans (block_rows c R _ t 0))
  have hB : ∀ t, wB m c t = R (ix2 (row c t) 1) := fun t => (wB_eq m c t).trans ((congrFun (hr c) _).trans (block_rows c R _ t 1))
  have hE : ∀ e k l, wE m e k l = E (ix3 e k l) := fun e k l => (congrFun (he _) _).trans (block_experts E _ e k l)
  have hp : ∀ t, (fun e => k0_pay3 (xs m c) (ws m c) (ix2 t e)) = prob (fun k => X (ix2 (row c t) k)) (fun k e' => W (ix2 k e')) := fun t =>
    funext fun e => by
      rw [pay3_apply, hw c]
      exact congrFun (congrArg (fun x => prob x _) (funext (hX t))) e
  have hs : ∀ t l, (fun e => ∑ k : Fin 256, xV m c t k * wE m e k l) = fun e => ∑ k : Fin 256, X (ix2 (row c t) k) * E (ix3 e k l) := fun t l =>
    funext fun e => Finset.sum_congr rfl fun k _ => by rw [hE e k l, show xV m c t k = X (ix2 (row c t) k) from hX t k]
  refine funext fun i => ?_
  obtain ⟨t, l, rfl⟩ : ∃ (t : Fin 1024) (l : Fin 512), i = ix2 t l := ⟨i 0, i 1, funext fun a => by fin_cases a <;> rfl⟩
  refine Eq.trans ?_ (block_rows c _ _ t l).symm
  rw [Ref.result_apply X W R E (row c t) l _ (hp t)]
  refine (outV_apply m c hne hcap t l).trans ?_
  rw [gA_apply m c t, gB_apply m c t, hs t l, hA t, hB t]

/-- Over the reals every device's result is its part of the reference's result, and both programs keep their
    arguments, when each device's tokens name two different experts and none more than forty-eight times. -/
theorem algebraic : Cert.algebraic_KernelIdeal_ReferenceIdeal_pre_dropless_KernelIdeal := by
  intro m g m' g' hpre hargs
  refine ⟨Cert.ReferenceIdeal.Value.res_main_v64 m' 0, ?_, ?_⟩
  · refine (θ_run Cert.KernelIdeal.defs _ _).mono (fun r h c => ⟨?_, args_kept m g r h.1 c⟩) (run_main m g)
    refine ((h.1 c (4 : Fin 5)).trans (final_out m g c)).trans ?_
    rw [Cert.ReferenceIdeal.Read.val_main_v64_eq]
    refine out_block m _ _ _ _ (fun c => (xs_eq m c).trans (hargs c).1) (fun c => (ws_eq m c).trans (hargs c).2.1)
      (fun c => (ix_eq m c).trans (hargs c).2.2.1) (fun c => (es_eq m c).trans (hargs c).2.2.2) c ?_ ?_
    · intro t
      rw [wA_eq, wB_eq, ix_eq]
      exact differ_of_pre _ _ _ _ (hpre c).1 t
    · intro e
      rw [show wA m c = fun t => m ((c : Thread nD τ).loc main_arg2) (ix2 t 0) from funext fun t => by rw [wA_eq, ix_eq],
        show wB m c = fun t => m ((c : Thread nD τ).loc main_arg2) (ix2 t 1) from funext fun t => by rw [wB_eq, ix_eq]]
      exact count_of_pre _ _ _ _ (hpre c).2 e
  · exact (θ_run Cert.ReferenceIdeal.defs _ _).mono (fun r h => h 0) (Cert.ReferenceIdeal.Value.run m' g')

end Cert.MoeProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value

@[expose] public section

noncomputable section

namespace Cert.Proof

open Idealize.ShloMosaic Idealize.SL.Sem

/-- Everything claimed: the frames of the program and of the reference, and that over the reals each device's result
    is its part of the reference's result. -/
theorem claim : Cert.Claim :=
  ⟨Cert.Kernel.Gen.facts, Cert.KernelIdeal.Gen.facts, Cert.ReferenceIdeal.Gen.facts, Cert.MoeProof.factsK, Cert.MoeProof.factsR,
    Cert.MoeProof.frame_kernel, Cert.MoeProof.frame_ideal, fun m g _ => Cert.MoeProof.frame_ideal m g trivial,
    Cert.MoeProof.frame_ref, fun m g _ => Cert.MoeProof.frame_ref m g trivial, trivial, Cert.MoeProof.algebraic⟩

end Cert.Proof

end
